-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v125)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x32x32 : Shape := ⟨4, ![2, 1024, 32, 32]⟩
abbrev S2x1x512x512 : Shape := ⟨4, ![2, 1, 512, 512]⟩
abbrev S1024x32x1x1 : Shape := ⟨4, ![1024, 32, 1, 1]⟩
abbrev S1024 : Shape := ⟨1, ![1024]⟩
abbrev S32x1024x1x1 : Shape := ⟨4, ![32, 1024, 1, 1]⟩
abbrev S32 : Shape := ⟨1, ![32]⟩
abbrev S2x64x1x1 : Shape := ⟨4, ![2, 64, 1, 1]⟩
abbrev S2 : Shape := ⟨1, ![2]⟩
abbrev S_ : Shape := ⟨0, ![]⟩
abbrev S1x32 : Shape := ⟨2, ![1, 32]⟩
abbrev S512 : Shape := ⟨1, ![512]⟩
abbrev S512x1 : Shape := ⟨2, ![512, 1]⟩
abbrev S512x32 : Shape := ⟨2, ![512, 32]⟩
abbrev S1x1x512x32x1 : Shape := ⟨5, ![1, 1, 512, 32, 1]⟩
abbrev S2x1x512x1x512 : Shape := ⟨5, ![2, 1, 512, 1, 512]⟩
abbrev S2x1x512x32x512 : Shape := ⟨5, ![2, 1, 512, 32, 512]⟩
abbrev S2x1x32x512 : Shape := ⟨4, ![2, 1, 32, 512]⟩
abbrev S2x1x32x512x1 : Shape := ⟨5, ![2, 1, 32, 512, 1]⟩
abbrev S1x1x1x512x32 : Shape := ⟨5, ![1, 1, 1, 512, 32]⟩
abbrev S2x1x32x512x32 : Shape := ⟨5, ![2, 1, 32, 512, 32]⟩
abbrev S2x1x32x32 : Shape := ⟨4, ![2, 1, 32, 32]⟩
abbrev S2x1024x1 : Shape := ⟨3, ![2, 1024, 1]⟩
abbrev S2x1024x1024 : Shape := ⟨3, ![2, 1024, 1024]⟩
abbrev S1024x32 : Shape := ⟨2, ![1024, 32]⟩
abbrev S32x32x32 : Shape := ⟨3, ![32, 32, 32]⟩
abbrev S32x32x1x32 : Shape := ⟨4, ![32, 32, 1, 32]⟩
abbrev S32x32 : Shape := ⟨2, ![32, 32]⟩
abbrev S32x1x32x1 : Shape := ⟨4, ![32, 1, 32, 1]⟩
abbrev S32x32x32x32 : Shape := ⟨4, ![32, 32, 32, 32]⟩
abbrev S1024x1024 : Shape := ⟨2, ![1024, 1024]⟩
abbrev S32x1024 : Shape := ⟨2, ![32, 1024]⟩
abbrev S2x64 : Shape := ⟨2, ![2, 64]⟩
abbrev S1024x1 : Shape := ⟨2, ![1024, 1]⟩
abbrev S32x1 : Shape := ⟨2, ![32, 1]⟩
abbrev S2x1 : Shape := ⟨2, ![2, 1]⟩
abbrev S2x32x1024 : Shape := ⟨3, ![2, 32, 1024]⟩
abbrev S2x64x1024 : Shape := ⟨3, ![2, 64, 1024]⟩
abbrev S2x2x1024 : Shape := ⟨3, ![2, 2, 1024]⟩
abbrev S1x1024x1024 : Shape := ⟨3, ![1, 1024, 1024]⟩
abbrev S1x1024x1 : Shape := ⟨3, ![1, 1024, 1]⟩
abbrev S1x32x1024 : Shape := ⟨3, ![1, 32, 1024]⟩
abbrev S1x64x1024 : Shape := ⟨3, ![1, 64, 1024]⟩
abbrev S1x2x1024 : Shape := ⟨3, ![1, 2, 1024]⟩
abbrev S1x1024 : Shape := ⟨2, ![1, 1024]⟩
abbrev S512x2x1x1024 : Shape := ⟨4, ![512, 2, 1, 1024]⟩
abbrev S512x1x1x1024 : Shape := ⟨4, ![512, 1, 1, 1024]⟩
abbrev S256x2x2x1024 : Shape := ⟨4, ![256, 2, 2, 1024]⟩
abbrev S256x1x2x1024 : Shape := ⟨4, ![256, 1, 2, 1024]⟩
abbrev S128x2x4x1024 : Shape := ⟨4, ![128, 2, 4, 1024]⟩
abbrev S128x1x4x1024 : Shape := ⟨4, ![128, 1, 4, 1024]⟩
abbrev S64x2x8x1024 : Shape := ⟨4, ![64, 2, 8, 1024]⟩
abbrev S64x1x8x1024 : Shape := ⟨4, ![64, 1, 8, 1024]⟩
abbrev S32x2x16x1024 : Shape := ⟨4, ![32, 2, 16, 1024]⟩
abbrev S32x1x16x1024 : Shape := ⟨4, ![32, 1, 16, 1024]⟩
abbrev S16x2x32x1024 : Shape := ⟨4, ![16, 2, 32, 1024]⟩
abbrev S16x1x32x1024 : Shape := ⟨4, ![16, 1, 32, 1024]⟩
abbrev S16x32x1024 : Shape := ⟨3, ![16, 32, 1024]⟩
abbrev S512x1024 : Shape := ⟨2, ![512, 1024]⟩
abbrev S16x2x16x1024 : Shape := ⟨4, ![16, 2, 16, 1024]⟩
abbrev S16x1x16x1024 : Shape := ⟨4, ![16, 1, 16, 1024]⟩
abbrev S32x2x8x1024 : Shape := ⟨4, ![32, 2, 8, 1024]⟩
abbrev S32x1x8x1024 : Shape := ⟨4, ![32, 1, 8, 1024]⟩
abbrev S64x2x4x1024 : Shape := ⟨4, ![64, 2, 4, 1024]⟩
abbrev S64x1x4x1024 : Shape := ⟨4, ![64, 1, 4, 1024]⟩
abbrev S128x2x2x1024 : Shape := ⟨4, ![128, 2, 2, 1024]⟩
abbrev S128x1x2x1024 : Shape := ⟨4, ![128, 1, 2, 1024]⟩
abbrev S256x2x1x1024 : Shape := ⟨4, ![256, 2, 1, 1024]⟩
abbrev S256x1x1x1024 : Shape := ⟨4, ![256, 1, 1, 1024]⟩
abbrev S8x2x32x1024 : Shape := ⟨4, ![8, 2, 32, 1024]⟩
abbrev S8x1x32x1024 : Shape := ⟨4, ![8, 1, 32, 1024]⟩
abbrev S8x32x1024 : Shape := ⟨3, ![8, 32, 1024]⟩
abbrev S256x1024 : Shape := ⟨2, ![256, 1024]⟩
abbrev S256x1 : Shape := ⟨2, ![256, 1]⟩
abbrev S8x2x16x1024 : Shape := ⟨4, ![8, 2, 16, 1024]⟩
abbrev S8x1x16x1024 : Shape := ⟨4, ![8, 1, 16, 1024]⟩
abbrev S16x2x8x1024 : Shape := ⟨4, ![16, 2, 8, 1024]⟩
abbrev S16x1x8x1024 : Shape := ⟨4, ![16, 1, 8, 1024]⟩
abbrev S32x2x4x1024 : Shape := ⟨4, ![32, 2, 4, 1024]⟩
abbrev S32x1x4x1024 : Shape := ⟨4, ![32, 1, 4, 1024]⟩
abbrev S64x2x2x1024 : Shape := ⟨4, ![64, 2, 2, 1024]⟩
abbrev S64x1x2x1024 : Shape := ⟨4, ![64, 1, 2, 1024]⟩
abbrev S128x2x1x1024 : Shape := ⟨4, ![128, 2, 1, 1024]⟩
abbrev S128x1x1x1024 : Shape := ⟨4, ![128, 1, 1, 1024]⟩
abbrev S4x2x32x1024 : Shape := ⟨4, ![4, 2, 32, 1024]⟩
abbrev S4x1x32x1024 : Shape := ⟨4, ![4, 1, 32, 1024]⟩
abbrev S4x32x1024 : Shape := ⟨3, ![4, 32, 1024]⟩
abbrev S128x1024 : Shape := ⟨2, ![128, 1024]⟩
abbrev S128x1 : Shape := ⟨2, ![128, 1]⟩
abbrev S4x2x16x1024 : Shape := ⟨4, ![4, 2, 16, 1024]⟩
abbrev S4x1x16x1024 : Shape := ⟨4, ![4, 1, 16, 1024]⟩
abbrev S8x2x8x1024 : Shape := ⟨4, ![8, 2, 8, 1024]⟩
abbrev S8x1x8x1024 : Shape := ⟨4, ![8, 1, 8, 1024]⟩
abbrev S16x2x4x1024 : Shape := ⟨4, ![16, 2, 4, 1024]⟩
abbrev S16x1x4x1024 : Shape := ⟨4, ![16, 1, 4, 1024]⟩
abbrev S32x2x2x1024 : Shape := ⟨4, ![32, 2, 2, 1024]⟩
abbrev S32x1x2x1024 : Shape := ⟨4, ![32, 1, 2, 1024]⟩
abbrev S64x2x1x1024 : Shape := ⟨4, ![64, 2, 1, 1024]⟩
abbrev S64x1x1x1024 : Shape := ⟨4, ![64, 1, 1, 1024]⟩
abbrev S2x2x32x1024 : Shape := ⟨4, ![2, 2, 32, 1024]⟩
abbrev S2x1x32x1024 : Shape := ⟨4, ![2, 1, 32, 1024]⟩
abbrev S64x1024 : Shape := ⟨2, ![64, 1024]⟩
abbrev S64x1 : Shape := ⟨2, ![64, 1]⟩
abbrev S2x2x16x1024 : Shape := ⟨4, ![2, 2, 16, 1024]⟩
abbrev S2x1x16x1024 : Shape := ⟨4, ![2, 1, 16, 1024]⟩
abbrev S4x2x8x1024 : Shape := ⟨4, ![4, 2, 8, 1024]⟩
abbrev S4x1x8x1024 : Shape := ⟨4, ![4, 1, 8, 1024]⟩
abbrev S8x2x4x1024 : Shape := ⟨4, ![8, 2, 4, 1024]⟩
abbrev S8x1x4x1024 : Shape := ⟨4, ![8, 1, 4, 1024]⟩
abbrev S16x2x2x1024 : Shape := ⟨4, ![16, 2, 2, 1024]⟩
abbrev S16x1x2x1024 : Shape := ⟨4, ![16, 1, 2, 1024]⟩
abbrev S32x2x1x1024 : Shape := ⟨4, ![32, 2, 1, 1024]⟩
abbrev S32x1x1x1024 : Shape := ⟨4, ![32, 1, 1, 1024]⟩
abbrev S1x2x32x1024 : Shape := ⟨4, ![1, 2, 32, 1024]⟩
abbrev S1x1x32x1024 : Shape := ⟨4, ![1, 1, 32, 1024]⟩
abbrev S1x2x16x1024 : Shape := ⟨4, ![1, 2, 16, 1024]⟩
abbrev S1x1x16x1024 : Shape := ⟨4, ![1, 1, 16, 1024]⟩
abbrev S2x2x8x1024 : Shape := ⟨4, ![2, 2, 8, 1024]⟩
abbrev S2x1x8x1024 : Shape := ⟨4, ![2, 1, 8, 1024]⟩
abbrev S4x2x4x1024 : Shape := ⟨4, ![4, 2, 4, 1024]⟩
abbrev S4x1x4x1024 : Shape := ⟨4, ![4, 1, 4, 1024]⟩
abbrev S8x2x2x1024 : Shape := ⟨4, ![8, 2, 2, 1024]⟩
abbrev S8x1x2x1024 : Shape := ⟨4, ![8, 1, 2, 1024]⟩
abbrev S16x2x1x1024 : Shape := ⟨4, ![16, 2, 1, 1024]⟩
abbrev S16x1x1x1024 : Shape := ⟨4, ![16, 1, 1, 1024]⟩
abbrev S1 : Shape := ⟨1, ![1]⟩
abbrev S1x1 : Shape := ⟨2, ![1, 1]⟩
abbrev S32x32x1024 : Shape := ⟨3, ![32, 32, 1024]⟩
abbrev S32x1x1024 : Shape := ⟨3, ![32, 1, 1024]⟩
abbrev S2x1024 : Shape := ⟨2, ![2, 1024]⟩
abbrev S2x32x32x32 : Shape := ⟨4, ![2, 32, 32, 32]⟩
abbrev S2x64x32x32 : Shape := ⟨4, ![2, 64, 32, 32]⟩
abbrev S2x128x32x32 : Shape := ⟨4, ![2, 128, 32, 32]⟩
abbrev S2x2x32x32 : Shape := ⟨4, ![2, 2, 32, 32]⟩

abbrev nBuf : Space → Nat
  | .hbm => 191
  | .vmem => 20
  | .smem => 0
  | _ => 0

abbrev hbmTy0_0 (i : Nat) : BufTy := match i % 128 with
  | 0 => ⟨S2x1024x32x32, .f32⟩
  | 1 => ⟨S2x1024x32x32, .f32⟩
  | 2 => ⟨S2x1x512x512, .f32⟩
  | 3 => ⟨S1024x32x1x1, .f32⟩
  | 4 => ⟨S1024, .f32⟩
  | 5 => ⟨S32x1024x1x1, .f32⟩
  | 6 => ⟨S32, .f32⟩
  | 7 => ⟨S2x64x1x1, .f32⟩
  | 8 => ⟨S2, .f32⟩
  | 9 => ⟨S_, .f32⟩
  | 10 => ⟨S_, .f32⟩
  | 11 => ⟨S_, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S1x32, .f32⟩
  | 26 => ⟨S512, .f32⟩
  | 27 => ⟨S512x1, .f32⟩
  | 28 => ⟨S512x32, .f32⟩
  | 29 => ⟨S512x32, .f32⟩
  | 30 => ⟨S512x32, .f32⟩
  | 31 => ⟨S512x32, .f32⟩
  | 32 => ⟨S512x32, .f32⟩
  | 33 => ⟨S512x32, .f32⟩
  | 34 => ⟨S512x32, .f32⟩
  | 35 => ⟨S_, .f32⟩
  | 36 => ⟨S512x32, .f32⟩
  | 37 => ⟨S512x32, .f32⟩
  | 38 => ⟨S_, .f32⟩
  | 39 => ⟨S512x32, .f32⟩
  | 40 => ⟨S512x32, .f32⟩
  | 41 => ⟨S_, .f32⟩
  | 42 => ⟨S32, .f32⟩
  | 43 => ⟨S1x32, .f32⟩
  | 44 => ⟨S1x32, .f32⟩
  | 45 => ⟨S_, .f32⟩
  | 46 => ⟨S1x32, .f32⟩
  | 47 => ⟨S1x32, .i1⟩
  | 48 => ⟨S_, .f32⟩
  | 49 => ⟨S1x32, .f32⟩
  | 50 => ⟨S1x32, .i1⟩
  | 51 => ⟨S_, .i32⟩
  | 52 => ⟨S_, .f32⟩
  | 53 => ⟨S1x32, .f32⟩
  | 54 => ⟨S1x32, .f32⟩
  | 55 => ⟨S512x32, .f32⟩
  | 56 => ⟨S512x32, .f32⟩
  | 57 => ⟨S_, .i32⟩
  | 58 => ⟨S_, .f32⟩
  | 59 => ⟨S512x32, .i1⟩
  | 60 => ⟨S512x32, .f32⟩
  | 61 => ⟨S512x32, .f32⟩
  | 62 => ⟨S_, .f32⟩
  | 63 => ⟨S32, .f32⟩
  | 64 => ⟨S32, .i1⟩
  | 65 => ⟨S_, .f32⟩
  | 66 => ⟨S32, .f32⟩
  | 67 => ⟨S32, .i1⟩
  | 68 => ⟨S32, .i1⟩
  | 69 => ⟨S1x32, .i1⟩
  | 70 => ⟨S_, .i32⟩
  | 71 => ⟨S_, .f32⟩
  | 72 => ⟨S512x32, .i1⟩
  | 73 => ⟨S512x32, .f32⟩
  | 74 => ⟨S512x32, .f32⟩
  | 75 => ⟨S1x1x512x32x1, .f32⟩
  | 76 => ⟨S2x1x512x1x512, .f32⟩
  | 77 => ⟨S2x1x512x32x512, .f32⟩
  | 78 => ⟨S2x1x512x32x512, .f32⟩
  | 79 => ⟨S2x1x512x32x512, .f32⟩
  | 80 => ⟨S_, .f32⟩
  | 81 => ⟨S2x1x32x512, .f32⟩
  | 82 => ⟨S2x1x32x512x1, .f32⟩
  | 83 => ⟨S_, .f32⟩
  | 84 => ⟨S_, .f32⟩
  | 85 => ⟨S_, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S1x32, .f32⟩
  | 100 => ⟨S512, .f32⟩
  | 101 => ⟨S512x1, .f32⟩
  | 102 => ⟨S512x32, .f32⟩
  | 103 => ⟨S512x32, .f32⟩
  | 104 => ⟨S512x32, .f32⟩
  | 105 => ⟨S512x32, .f32⟩
  | 106 => ⟨S512x32, .f32⟩
  | 107 => ⟨S512x32, .f32⟩
  | 108 => ⟨S512x32, .f32⟩
  | 109 => ⟨S_, .f32⟩
  | 110 => ⟨S512x32, .f32⟩
  | 111 => ⟨S512x32, .f32⟩
  | 112 => ⟨S_, .f32⟩
  | 113 => ⟨S512x32, .f32⟩
  | 114 => ⟨S512x32, .f32⟩
  | 115 => ⟨S_, .f32⟩
  | 116 => ⟨S32, .f32⟩
  | 117 => ⟨S1x32, .f32⟩
  | 118 => ⟨S1x32, .f32⟩
  | 119 => ⟨S_, .f32⟩
  | 120 => ⟨S1x32, .f32⟩
  | 121 => ⟨S1x32, .i1⟩
  | 122 => ⟨S_, .f32⟩
  | 123 => ⟨S1x32, .f32⟩
  | 124 => ⟨S1x32, .i1⟩
  | 125 => ⟨S_, .i32⟩
  | 126 => ⟨S_, .f32⟩
  | 127 => ⟨S1x32, .f32⟩
  | _ => ⟨S2x1024x32x32, .f32⟩

abbrev hbmTy0_1 (i : Nat) : BufTy := match i % 128 with
  | 0 => ⟨S1x32, .f32⟩
  | 1 => ⟨S512x32, .f32⟩
  | 2 => ⟨S512x32, .f32⟩
  | 3 => ⟨S_, .i32⟩
  | 4 => ⟨S_, .f32⟩
  | 5 => ⟨S512x32, .i1⟩
  | 6 => ⟨S512x32, .f32⟩
  | 7 => ⟨S512x32, .f32⟩
  | 8 => ⟨S_, .f32⟩
  | 9 => ⟨S32, .f32⟩
  | 10 => ⟨S32, .i1⟩
  | 11 => ⟨S_, .f32⟩
  | 12 => ⟨S32, .f32⟩
  | 13 => ⟨S32, .i1⟩
  | 14 => ⟨S32, .i1⟩
  | 15 => ⟨S1x32, .i1⟩
  | 16 => ⟨S_, .i32⟩
  | 17 => ⟨S_, .f32⟩
  | 18 => ⟨S512x32, .i1⟩
  | 19 => ⟨S512x32, .f32⟩
  | 20 => ⟨S512x32, .f32⟩
  | 21 => ⟨S1x1x1x512x32, .f32⟩
  | 22 => ⟨S2x1x32x512x32, .f32⟩
  | 23 => ⟨S2x1x32x512x32, .f32⟩
  | 24 => ⟨S2x1x32x512x32, .f32⟩
  | 25 => ⟨S_, .f32⟩
  | 26 => ⟨S2x1x32x32, .f32⟩
  | 27 => ⟨S2x1024x1, .f32⟩
  | 28 => ⟨S_, .f32⟩
  | 29 => ⟨S2x1024x1, .f32⟩
  | 30 => ⟨S2x1024x1, .i1⟩
  | 31 => ⟨S2x1024x1, .f32⟩
  | 32 => ⟨S2x1024x1024, .f32⟩
  | 33 => ⟨S2x1024x1024, .f32⟩
  | 34 => ⟨S1024x32, .f32⟩
  | 35 => ⟨S32x32x32, .f32⟩
  | 36 => ⟨S32x32x1x32, .f32⟩
  | 37 => ⟨S32x32, .i32⟩
  | 38 => ⟨S32x32, .i32⟩
  | 39 => ⟨S_, .i32⟩
  | 40 => ⟨S32x32, .i32⟩
  | 41 => ⟨S32x32, .i32⟩
  | 42 => ⟨S32x32, .i1⟩
  | 43 => ⟨S32x32, .f32⟩
  | 44 => ⟨S32x1x32x1, .f32⟩
  | 45 => ⟨S32x32x32x32, .f32⟩
  | 46 => ⟨S32x32x32x32, .f32⟩
  | 47 => ⟨S32x32x32x32, .f32⟩
  | 48 => ⟨S1024x1024, .f32⟩
  | 49 => ⟨S32x1024, .f32⟩
  | 50 => ⟨S2x64, .f32⟩
  | 51 => ⟨S1024x1, .f32⟩
  | 52 => ⟨S32x1, .f32⟩
  | 53 => ⟨S2x1, .f32⟩
  | 54 => ⟨S2x32x1024, .f32⟩
  | 55 => ⟨S2x32x1024, .f32⟩
  | 56 => ⟨S2x64x1024, .f32⟩
  | 57 => ⟨S2x2x1024, .f32⟩
  | 58 => ⟨S2x32x32x32, .f32⟩
  | 59 => ⟨S2x32x32x32, .f32⟩
  | 60 => ⟨S2x64x32x32, .f32⟩
  | 61 => ⟨S2x128x32x32, .f32⟩
  | 62 => ⟨S2x2x32x32, .f32⟩
  | _ => ⟨S2x1024x32x32, .f32⟩

abbrev hbmTy (i : Nat) : BufTy := match i / 128 with
  | 0 => hbmTy0_0 i
  | 1 => hbmTy0_1 i
  | _ => ⟨S2x1024x32x32, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1, .f32⟩
  | .local _ .vmem, ⟨5, _⟩ => ⟨S1x1024x1, .f32⟩
  | .local _ .vmem, ⟨6, _⟩ => ⟨S1024x1024, .f32⟩
  | .local _ .vmem, ⟨7, _⟩ => ⟨S1024x1, .f32⟩
  | .local _ .vmem, ⟨8, _⟩ => ⟨S32x1024, .f32⟩
  | .local _ .vmem, ⟨9, _⟩ => ⟨S32x1, .f32⟩
  | .local _ .vmem, ⟨10, _⟩ => ⟨S2x64, .f32⟩
  | .local _ .vmem, ⟨11, _⟩ => ⟨S2x1, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x2x1024, .f32⟩
  | .local _ .vmem, ⟨19, _⟩ => ⟨S1x2x1024, .f32⟩
  | _, _ => ⟨S2x1024x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_cst_2 : Ref sig .tc := ⟨.hbm, 16, rfl⟩
abbrev main_v4 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_cst_11 : Ref sig .tc := ⟨.hbm, 62, rfl⟩
abbrev main_v35 : Ref sig .tc := ⟨.hbm, 63, rfl⟩
abbrev main_v36 : Ref sig .tc := ⟨.hbm, 64, rfl⟩
abbrev main_cst_12 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_13 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_cst_16 : Ref sig .tc := ⟨.hbm, 84, rfl⟩
abbrev main_v49 : Ref sig .tc := ⟨.hbm, 85, rfl⟩
abbrev main_v50 : Ref sig .tc := ⟨.hbm, 86, rfl⟩
abbrev main_cst_17 : Ref sig .tc := ⟨.hbm, 87, rfl⟩
abbrev main_v51 : Ref sig .tc := ⟨.hbm, 88, rfl⟩
abbrev main_v52 : Ref sig .tc := ⟨.hbm, 89, rfl⟩
abbrev main_cst_18 : Ref sig .tc := ⟨.hbm, 90, rfl⟩
abbrev main_v53 : Ref sig .tc := ⟨.hbm, 91, rfl⟩
abbrev main_v54 : Ref sig .tc := ⟨.hbm, 92, rfl⟩
abbrev main_cst_19 : Ref sig .tc := ⟨.hbm, 93, rfl⟩
abbrev main_v55 : Ref sig .tc := ⟨.hbm, 94, rfl⟩
abbrev main_v56 : Ref sig .tc := ⟨.hbm, 95, rfl⟩
abbrev main_cst_20 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_21 : Ref sig .tc := ⟨.hbm, 109, rfl⟩
abbrev main_v69 : Ref sig .tc := ⟨.hbm, 110, rfl⟩
abbrev main_v70 : Ref sig .tc := ⟨.hbm, 111, rfl⟩
abbrev main_cst_22 : Ref sig .tc := ⟨.hbm, 112, rfl⟩
abbrev main_v71 : Ref sig .tc := ⟨.hbm, 113, rfl⟩
abbrev main_v72 : Ref sig .tc := ⟨.hbm, 114, rfl⟩
abbrev main_cst_23 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_24 : Ref sig .tc := ⟨.hbm, 119, rfl⟩
abbrev main_v76 : Ref sig .tc := ⟨.hbm, 120, rfl⟩
abbrev main_v77 : Ref sig .tc := ⟨.hbm, 121, rfl⟩
abbrev main_cst_25 : Ref sig .tc := ⟨.hbm, 122, rfl⟩
abbrev main_v78 : Ref sig .tc := ⟨.hbm, 123, rfl⟩
abbrev main_v79 : Ref sig .tc := ⟨.hbm, 124, rfl⟩
abbrev main_c_26 : Ref sig .tc := ⟨.hbm, 125, rfl⟩
abbrev main_call3_v0 : Ref sig .tc := ⟨.hbm, 126, rfl⟩
abbrev main_call3_v1 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_27 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v83 : Ref sig .tc := ⟨.hbm, 135, rfl⟩
abbrev main_cst_28 : Ref sig .tc := ⟨.hbm, 136, rfl⟩
abbrev main_v84 : Ref sig .tc := ⟨.hbm, 137, rfl⟩
abbrev main_v85 : Ref sig .tc := ⟨.hbm, 138, rfl⟩
abbrev main_cst_29 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_c_30 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_31 : Ref sig .tc := ⟨.hbm, 153, rfl⟩
abbrev main_v95 : Ref sig .tc := ⟨.hbm, 154, rfl⟩
abbrev main_v96 : Ref sig .tc := ⟨.hbm, 155, rfl⟩
abbrev main_cst_32 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_c_33 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121_0 : Ref sig .tc := ⟨.hbm, 182, rfl⟩
abbrev main_v121_1 : Ref sig .tc := ⟨.hbm, 183, rfl⟩
abbrev main_v121_2 : Ref sig .tc := ⟨.hbm, 184, rfl⟩
abbrev main_v121_3 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x1024x32x32 : Shape := ⟨4, ![2, 1024, 32, 32]⟩
abbrev S2x1x512x512 : Shape := ⟨4, ![2, 1, 512, 512]⟩
abbrev S1024x32x1x1 : Shape := ⟨4, ![1024, 32, 1, 1]⟩
abbrev S1024 : Shape := ⟨1, ![1024]⟩
abbrev S32x1024x1x1 : Shape := ⟨4, ![32, 1024, 1, 1]⟩
abbrev S32 : Shape := ⟨1, ![32]⟩
abbrev S2x64x1x1 : Shape := ⟨4, ![2, 64, 1, 1]⟩
abbrev S2 : Shape := ⟨1, ![2]⟩
abbrev S_ : Shape := ⟨0, ![]⟩
abbrev S2x32x32 : Shape := ⟨3, ![2, 32, 32]⟩
abbrev S2x1x32x32 : Shape := ⟨4, ![2, 1, 32, 32]⟩
abbrev S2x32x32x32x32 : Shape := ⟨5, ![2, 32, 32, 32, 32]⟩
abbrev S2x1024x1024 : Shape := ⟨3, ![2, 1024, 1024]⟩
abbrev S512 : Shape := ⟨1, ![512]⟩
abbrev S1x32 : Shape := ⟨2, ![1, 32]⟩
abbrev S512x1 : Shape := ⟨2, ![512, 1]⟩
abbrev S512x32 : Shape := ⟨2, ![512, 32]⟩
abbrev S32x2x1x512 : Shape := ⟨4, ![32, 2, 1, 512]⟩
abbrev S32x2x1x32 : Shape := ⟨4, ![32, 2, 1, 32]⟩
abbrev S2x1x1024 : Shape := ⟨3, ![2, 1, 1024]⟩
abbrev S2x1024x32 : Shape := ⟨3, ![2, 1024, 32]⟩
abbrev S2x32x32x32 : Shape := ⟨4, ![2, 32, 32, 32]⟩
abbrev S2x64x32x32 : Shape := ⟨4, ![2, 64, 32, 32]⟩
abbrev S2x1024 : Shape := ⟨2, ![2, 1024]⟩
abbrev S2x32 : Shape := ⟨2, ![2, 32]⟩
abbrev S2x32x1 : Shape := ⟨3, ![2, 32, 1]⟩
abbrev S1 : Shape := ⟨1, ![1]⟩
abbrev S1x1x1 : Shape := ⟨3, ![1, 1, 1]⟩
abbrev S2x32x1024 : Shape := ⟨3, ![2, 32, 1024]⟩
abbrev S32x32x32 : Shape := ⟨3, ![32, 32, 32]⟩
abbrev S32x2x32x32x32 : Shape := ⟨5, ![32, 2, 32, 32, 32]⟩
abbrev S1x1024x1x1 : Shape := ⟨4, ![1, 1024, 1, 1]⟩
abbrev S1x2x1x32x1x32x1x32 : Shape := ⟨8, ![1, 2, 1, 32, 1, 32, 1, 32]⟩
abbrev S1x2x1x32x32x32x1x32 : Shape := ⟨8, ![1, 2, 1, 32, 32, 32, 1, 32]⟩
abbrev S2x32x1024x32 : Shape := ⟨4, ![2, 32, 1024, 32]⟩
abbrev S32x1024 : Shape := ⟨2, ![32, 1024]⟩
abbrev S1x32x1x1 : Shape := ⟨4, ![1, 32, 1, 1]⟩
abbrev S2x128x32x32 : Shape := ⟨4, ![2, 128, 32, 32]⟩
abbrev S2x64 : Shape := ⟨2, ![2, 64]⟩
abbrev S2x32x32x2 : Shape := ⟨4, ![2, 32, 32, 2]⟩
abbrev S2x2x32x32 : Shape := ⟨4, ![2, 2, 32, 32]⟩
abbrev S1x2x1x1 : Shape := ⟨4, ![1, 2, 1, 1]⟩

abbrev nBuf : Space → Nat
  | .hbm => 259
  | .vmem => 0
  | .smem => 0
  | _ => 0

abbrev hbmTy0_0 (i : Nat) : BufTy := match i % 128 with
  | 0 => ⟨S2x1024x32x32, .f32⟩
  | 1 => ⟨S2x1024x32x32, .f32⟩
  | 2 => ⟨S2x1x512x512, .f32⟩
  | 3 => ⟨S1024x32x1x1, .f32⟩
  | 4 => ⟨S1024, .f32⟩
  | 5 => ⟨S32x1024x1x1, .f32⟩
  | 6 => ⟨S32, .f32⟩
  | 7 => ⟨S2x64x1x1, .f32⟩
  | 8 => ⟨S2, .f32⟩
  | 9 => ⟨S2x1024x32x32, .f32⟩
  | 10 => ⟨S_, .f32⟩
  | 11 => ⟨S2x32x32, .f32⟩
  | 12 => ⟨S2x1x32x32, .f32⟩
  | 13 => ⟨S2x1x32x32, .f32⟩
  | 14 => ⟨S_, .f32⟩
  | 15 => ⟨S2x1x32x32, .f32⟩
  | 16 => ⟨S2x1x32x32, .f32⟩
  | 17 => ⟨S2x1024x32x32, .f32⟩
  | 18 => ⟨S2x1024x32x32, .f32⟩
  | 19 => ⟨S2x1024x32x32, .f32⟩
  | 20 => ⟨S_, .f32⟩
  | 21 => ⟨S2x32x32, .f32⟩
  | 22 => ⟨S2x1x32x32, .f32⟩
  | 23 => ⟨S2x1x32x32, .f32⟩
  | 24 => ⟨S_, .f32⟩
  | 25 => ⟨S2x1x32x32, .f32⟩
  | 26 => ⟨S2x1x32x32, .f32⟩
  | 27 => ⟨S2x1024x32x32, .f32⟩
  | 28 => ⟨S2x1024x32x32, .f32⟩
  | 29 => ⟨S2x32x32x32x32, .f32⟩
  | 30 => ⟨S2x1024x1024, .f32⟩
  | 31 => ⟨S_, .f32⟩
  | 32 => ⟨S_, .f32⟩
  | 33 => ⟨S_, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S512, .f32⟩
  | 48 => ⟨S1x32, .f32⟩
  | 49 => ⟨S512x1, .f32⟩
  | 50 => ⟨S512x32, .f32⟩
  | 51 => ⟨S512x32, .f32⟩
  | 52 => ⟨S512x32, .f32⟩
  | 53 => ⟨S512x32, .f32⟩
  | 54 => ⟨S_, .f32⟩
  | 55 => ⟨S512x32, .f32⟩
  | 56 => ⟨S512x32, .f32⟩
  | 57 => ⟨S512x32, .f32⟩
  | 58 => ⟨S_, .f32⟩
  | 59 => ⟨S512x32, .f32⟩
  | 60 => ⟨S512x32, .f32⟩
  | 61 => ⟨S_, .f32⟩
  | 62 => ⟨S512x32, .f32⟩
  | 63 => ⟨S512x32, .f32⟩
  | 64 => ⟨S_, .f32⟩
  | 65 => ⟨S32, .f32⟩
  | 66 => ⟨S1x32, .f32⟩
  | 67 => ⟨S1x32, .f32⟩
  | 68 => ⟨S_, .f32⟩
  | 69 => ⟨S1x32, .f32⟩
  | 70 => ⟨S1x32, .i1⟩
  | 71 => ⟨S_, .f32⟩
  | 72 => ⟨S1x32, .f32⟩
  | 73 => ⟨S1x32, .i1⟩
  | 74 => ⟨S_, .f32⟩
  | 75 => ⟨S1x32, .f32⟩
  | 76 => ⟨S1x32, .f32⟩
  | 77 => ⟨S512x32, .f32⟩
  | 78 => ⟨S512x32, .f32⟩
  | 79 => ⟨S512x32, .i1⟩
  | 80 => ⟨S_, .f32⟩
  | 81 => ⟨S512x32, .f32⟩
  | 82 => ⟨S512x32, .f32⟩
  | 83 => ⟨S_, .f32⟩
  | 84 => ⟨S32, .f32⟩
  | 85 => ⟨S32, .i1⟩
  | 86 => ⟨S_, .f32⟩
  | 87 => ⟨S32, .f32⟩
  | 88 => ⟨S32, .i1⟩
  | 89 => ⟨S32, .i1⟩
  | 90 => ⟨S1x32, .i1⟩
  | 91 => ⟨S512x32, .i1⟩
  | 92 => ⟨S_, .f32⟩
  | 93 => ⟨S512x32, .f32⟩
  | 94 => ⟨S512x32, .f32⟩
  | 95 => ⟨S_, .f32⟩
  | 96 => ⟨S_, .f32⟩
  | 97 => ⟨S_, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S512, .f32⟩
  | 112 => ⟨S1x32, .f32⟩
  | 113 => ⟨S512x1, .f32⟩
  | 114 => ⟨S512x32, .f32⟩
  | 115 => ⟨S512x32, .f32⟩
  | 116 => ⟨S512x32, .f32⟩
  | 117 => ⟨S512x32, .f32⟩
  | 118 => ⟨S_, .f32⟩
  | 119 => ⟨S512x32, .f32⟩
  | 120 => ⟨S512x32, .f32⟩
  | 121 => ⟨S512x32, .f32⟩
  | 122 => ⟨S_, .f32⟩
  | 123 => ⟨S512x32, .f32⟩
  | 124 => ⟨S512x32, .f32⟩
  | 125 => ⟨S_, .f32⟩
  | 126 => ⟨S512x32, .f32⟩
  | 127 => ⟨S512x32, .f32⟩
  | _ => ⟨S2x1024x32x32, .f32⟩

abbrev hbmTy0_1 (i : Nat) : BufTy := match i % 128 with
  | 0 => ⟨S_, .f32⟩
  | 1 => ⟨S32, .f32⟩
  | 2 => ⟨S1x32, .f32⟩
  | 3 => ⟨S1x32, .f32⟩
  | 4 => ⟨S_, .f32⟩
  | 5 => ⟨S1x32, .f32⟩
  | 6 => ⟨S1x32, .i1⟩
  | 7 => ⟨S_, .f32⟩
  | 8 => ⟨S1x32, .f32⟩
  | 9 => ⟨S1x32, .i1⟩
  | 10 => ⟨S_, .f32⟩
  | 11 => ⟨S1x32, .f32⟩
  | 12 => ⟨S1x32, .f32⟩
  | 13 => ⟨S512x32, .f32⟩
  | 14 => ⟨S512x32, .f32⟩
  | 15 => ⟨S512x32, .i1⟩
  | 16 => ⟨S_, .f32⟩
  | 17 => ⟨S512x32, .f32⟩
  | 18 => ⟨S512x32, .f32⟩
  | 19 => ⟨S_, .f32⟩
  | 20 => ⟨S32, .f32⟩
  | 21 => ⟨S32, .i1⟩
  | 22 => ⟨S_, .f32⟩
  | 23 => ⟨S32, .f32⟩
  | 24 => ⟨S32, .i1⟩
  | 25 => ⟨S32, .i1⟩
  | 26 => ⟨S1x32, .i1⟩
  | 27 => ⟨S512x32, .i1⟩
  | 28 => ⟨S_, .f32⟩
  | 29 => ⟨S512x32, .f32⟩
  | 30 => ⟨S512x32, .f32⟩
  | 31 => ⟨S32x2x1x512, .f32⟩
  | 32 => ⟨S32x2x1x32, .f32⟩
  | 33 => ⟨S2x1x32x32, .f32⟩
  | 34 => ⟨S2x1x1024, .f32⟩
  | 35 => ⟨S_, .f32⟩
  | 36 => ⟨S2x1x1024, .f32⟩
  | 37 => ⟨S2x1x1024, .i1⟩
  | 38 => ⟨S2x1x1024, .f32⟩
  | 39 => ⟨S2x1024x1024, .f32⟩
  | 40 => ⟨S2x1024x1024, .f32⟩
  | 41 => ⟨S_, .f32⟩
  | 42 => ⟨S2x1x1024, .f32⟩
  | 43 => ⟨S2x1x1024, .i1⟩
  | 44 => ⟨S2x1x1024, .f32⟩
  | 45 => ⟨S2x1024x1024, .f32⟩
  | 46 => ⟨S2x1024x1024, .f32⟩
  | 47 => ⟨S2x1024x32, .f32⟩
  | 48 => ⟨S2x1024x32, .i32⟩
  | 49 => ⟨S2x1024x32, .f32⟩
  | 50 => ⟨S2x1024x32, .i32⟩
  | 51 => ⟨S2x32x32x32, .f32⟩
  | 52 => ⟨S2x32x32x32, .f32⟩
  | 53 => ⟨S2x32x32x32, .f32⟩
  | 54 => ⟨S2x32x32x32, .f32⟩
  | 55 => ⟨S2x64x32x32, .f32⟩
  | 56 => ⟨S2x1024x1024, .f32⟩
  | 57 => ⟨S_, .f32⟩
  | 58 => ⟨S2x1024, .f32⟩
  | 59 => ⟨S2x32, .f32⟩
  | 60 => ⟨S2x32, .i32⟩
  | 61 => ⟨S2x1024x1024, .f32⟩
  | 62 => ⟨S2x32x1, .i32⟩
  | 63 => ⟨S_, .i32⟩
  | 64 => ⟨S2x32x1, .i32⟩
  | 65 => ⟨S2x32x1, .i1⟩
  | 66 => ⟨S_, .i32⟩
  | 67 => ⟨S2x32x1, .i32⟩
  | 68 => ⟨S2x32x1, .i32⟩
  | 69 => ⟨S2x32x1, .i32⟩
  | 70 => ⟨S1, .i32⟩
  | 71 => ⟨S_, .i32⟩
  | 72 => ⟨S2x32x1, .i32⟩
  | 73 => ⟨S2x32x1, .i1⟩
  | 74 => ⟨S1x1x1, .i32⟩
  | 75 => ⟨S2x32x1, .i32⟩
  | 76 => ⟨S2x32x1, .i1⟩
  | 77 => ⟨S2x32x1, .i1⟩
  | 78 => ⟨S_, .i1⟩
  | 79 => ⟨S2x32, .i1⟩
  | 80 => ⟨S2x32x1024, .f32⟩
  | 81 => ⟨S2x32x1024, .i1⟩
  | 82 => ⟨S_, .f32⟩
  | 83 => ⟨S2x32x1024, .f32⟩
  | 84 => ⟨S2x32x1024, .f32⟩
  | 85 => ⟨S2x32x1024, .f32⟩
  | 86 => ⟨S2x32x32x32, .f32⟩
  | 87 => ⟨S32x32x32, .f32⟩
  | 88 => ⟨S2x32x32x32x32, .f32⟩
  | 89 => ⟨S32x2x32x32x32, .f32⟩
  | 90 => ⟨S2x32x32x32x32, .f32⟩
  | 91 => ⟨S2x1024x32x32, .f32⟩
  | 92 => ⟨S1x1024x1x1, .f32⟩
  | 93 => ⟨S2x1024x32x32, .f32⟩
  | 94 => ⟨S2x1024x32x32, .f32⟩
  | 95 => ⟨S_, .f32⟩
  | 96 => ⟨S2x1024x32x32, .f32⟩
  | 97 => ⟨S2x1024x32x32, .f32⟩
  | 98 => ⟨S1x2x1x32x1x32x1x32, .f32⟩
  | 99 => ⟨S1x2x1x32x32x32x1x32, .f32⟩
  | 100 => ⟨S2x32x1024x32, .f32⟩
  | 101 => ⟨S2x1024x32x32, .f32⟩
  | 102 => ⟨S2x1024x32x32, .f32⟩
  | 103 => ⟨S2x32x32x32x32, .f32⟩
  | 104 => ⟨S_, .f32⟩
  | 105 => ⟨S2x32x32x32, .f32⟩
  | 106 => ⟨S32x1024, .f32⟩
  | 107 => ⟨S2x32x32x32, .f32⟩
  | 108 => ⟨S2x32x32x32, .f32⟩
  | 109 => ⟨S1x32x1x1, .f32⟩
  | 110 => ⟨S2x32x32x32, .f32⟩
  | 111 => ⟨S2x32x32x32, .f32⟩
  | 112 => ⟨S_, .f32⟩
  | 113 => ⟨S2x32x32x32, .f32⟩
  | 114 => ⟨S2x32x32x32, .f32⟩
  | 115 => ⟨S_, .f32⟩
  | 116 => ⟨S2x32x32, .f32⟩
  | 117 => ⟨S2x1x32x32, .f32⟩
  | 118 => ⟨S_, .f32⟩
  | 119 => ⟨S2x1x32x32, .f32⟩
  | 120 => ⟨S2x1x32x32, .f32⟩
  | 121 => ⟨S2x32x32x32, .f32⟩
  | 122 => ⟨S2x32x32x32, .f32⟩
  | 123 => ⟨S2x64x32x32, .f32⟩
  | 124 => ⟨S2x128x32x32, .f32⟩
  | 125 => ⟨S2x64, .f32⟩
  | 126 => ⟨S2x32x32x2, .f32⟩
  | 127 => ⟨S2x2x32x32, .f32⟩
  | _ => ⟨S2x1024x32x32, .f32⟩

abbrev hbmTy0_2 (i : Nat) : BufTy := match i % 128 with
  | 0 => ⟨S1x2x1x1, .f32⟩
  | 1 => ⟨S2x2x32x32, .f32⟩
  | 2 => ⟨S2x2x32x32, .f32⟩
  | _ => ⟨S2x1024x32x32, .f32⟩

abbrev hbmTy (i : Nat) : BufTy := match i / 128 with
  | 0 => hbmTy0_0 i
  | 1 => hbmTy0_1 i
  | 2 => hbmTy0_2 i
  | _ => ⟨S2x1024x32x32, .f32⟩

abbrev bufTy : (tb : Table) → Fin (tcTables nBuf tb) → BufTy
  | .hbm, ⟨i, _⟩ => hbmTy i
  | _, _ => ⟨S2x1024x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_13 : Ref sig .tc := ⟨.hbm, 80, rfl⟩
abbrev main_v49 : Ref sig .tc := ⟨.hbm, 81, rfl⟩
abbrev main_v50 : Ref sig .tc := ⟨.hbm, 82, rfl⟩
abbrev main_cst_14 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_v59 : Ref sig .tc := ⟨.hbm, 94, rfl⟩
abbrev main_cst_17 : Ref sig .tc := ⟨.hbm, 95, rfl⟩
abbrev main_cst_18 : Ref sig .tc := ⟨.hbm, 96, rfl⟩
abbrev main_v60 : Ref sig .tc := ⟨.hbm, 97, rfl⟩
abbrev main_v61 : Ref sig .tc := ⟨.hbm, 98, rfl⟩
abbrev main_cst_19 : Ref sig .tc := ⟨.hbm, 99, rfl⟩
abbrev main_v62 : Ref sig .tc := ⟨.hbm, 100, rfl⟩
abbrev main_v63 : Ref sig .tc := ⟨.hbm, 101, rfl⟩
abbrev main_cst_20 : Ref sig .tc := ⟨.hbm, 102, rfl⟩
abbrev main_v64 : Ref sig .tc := ⟨.hbm, 103, rfl⟩
abbrev main_v65 : Ref sig .tc := ⟨.hbm, 104, rfl⟩
abbrev main_cst_21 : Ref sig .tc := ⟨.hbm, 105, rfl⟩
abbrev main_v66 : Ref sig .tc := ⟨.hbm, 106, rfl⟩
abbrev main_v67 : Ref sig .tc := ⟨.hbm, 107, rfl⟩
abbrev main_cst_22 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_23 : Ref sig .tc := ⟨.hbm, 122, rfl⟩
abbrev main_v81 : Ref sig .tc := ⟨.hbm, 123, rfl⟩
abbrev main_v82 : Ref sig .tc := ⟨.hbm, 124, rfl⟩
abbrev main_cst_24 : Ref sig .tc := ⟨.hbm, 125, rfl⟩
abbrev main_v83 : Ref sig .tc := ⟨.hbm, 126, rfl⟩
abbrev main_v84 : Ref sig .tc := ⟨.hbm, 127, rfl⟩
abbrev main_cst_25 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_26 : Ref sig .tc := ⟨.hbm, 132, rfl⟩
abbrev main_v88 : Ref sig .tc := ⟨.hbm, 133, rfl⟩
abbrev main_v89 : Ref sig .tc := ⟨.hbm, 134, rfl⟩
abbrev main_cst_27 : Ref sig .tc := ⟨.hbm, 135, rfl⟩
abbrev main_v90 : Ref sig .tc := ⟨.hbm, 136, rfl⟩
abbrev main_v91 : Ref sig .tc := ⟨.hbm, 137, rfl⟩
abbrev main_cst_28 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_29 : Ref sig .tc := ⟨.hbm, 144, rfl⟩
abbrev main_v97 : Ref sig .tc := ⟨.hbm, 145, rfl⟩
abbrev main_v98 : Ref sig .tc := ⟨.hbm, 146, rfl⟩
abbrev main_cst_30 : Ref sig .tc := ⟨.hbm, 147, rfl⟩
abbrev main_v99 : Ref sig .tc := ⟨.hbm, 148, rfl⟩
abbrev main_v100 : Ref sig .tc := ⟨.hbm, 149, rfl⟩
abbrev main_cst_31 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_32 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_33 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_34 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_values : Ref sig .tc := ⟨.hbm, 175, rfl⟩
abbrev main_indices : Ref sig .tc := ⟨.hbm, 176, rfl⟩
abbrev main_values_35 : Ref sig .tc := ⟨.hbm, 177, rfl⟩
abbrev main_indices_36 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_37 : Ref sig .tc := ⟨.hbm, 185, rfl⟩
abbrev main_v128 : Ref sig .tc := ⟨.hbm, 186, rfl⟩
abbrev main_values_38 : Ref sig .tc := ⟨.hbm, 187, rfl⟩
abbrev main_indices_39 : Ref sig .tc := ⟨.hbm, 188, rfl⟩
abbrev main_v129 : Ref sig .tc := ⟨.hbm, 189, rfl⟩
abbrev main_v130 : Ref sig .tc := ⟨.hbm, 190, rfl⟩
abbrev main_call2_c : Ref sig .tc := ⟨.hbm, 191, rfl⟩
abbrev main_call2_v0 : Ref sig .tc := ⟨.hbm, 192, rfl⟩
abbrev main_call2_v1 : Ref sig .tc := ⟨.hbm, 193, rfl⟩
abbrev main_call2_c_0 : Ref sig .tc := ⟨.hbm, 194, rfl⟩
abbrev main_call2_v2 : Ref sig .tc := ⟨.hbm, 195, rfl⟩
abbrev main_call2_v3 : Ref sig .tc := ⟨.hbm, 196, rfl⟩
abbrev main_call2_v4 : Ref sig .tc := ⟨.hbm, 197, rfl⟩
abbrev main_call2_c_1 : Ref sig .tc := ⟨.hbm, 198, rfl⟩
abbrev main_call2_c_2 : Ref sig .tc := ⟨.hbm, 199, rfl⟩
abbrev main_call2_v5 : Ref sig .tc := ⟨.hbm, 200, rfl⟩
abbrev main_call2_v6 : Ref sig .tc := ⟨.hbm, 201, rfl⟩
abbrev main_call2_v7 : Ref sig .tc := ⟨.hbm, 202, rfl⟩
abbrev main_call2_v8 : Ref sig .tc := ⟨.hbm, 203, rfl⟩
abbrev main_call2_v9 : Ref sig .tc := ⟨.hbm, 204, rfl⟩
abbrev main_call2_v10 : Ref sig .tc := ⟨.hbm, 205, rfl⟩
abbrev main_call2_c_3 : Ref sig .tc := ⟨.hbm, 206, rfl⟩
abbrev main_call2_v11 : Ref sig .tc := ⟨.hbm, 207, rfl⟩
abbrev main_call2_v12 : Ref sig .tc := ⟨.hbm, 208, rfl⟩
abbrev main_call2_v13 : Ref sig .tc := ⟨.hbm, 209, rfl⟩
abbrev main_call2_cst : Ref sig .tc := ⟨.hbm, 210, rfl⟩
abbrev main_call2_v14 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_call3_cst : Ref sig .tc := ⟨.hbm, 223, rfl⟩
abbrev main_call3_v0 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_cst_40 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_call4_cst : Ref sig .tc := ⟨.hbm, 240, rfl⟩
abbrev main_call4_v0 : Ref sig .tc := ⟨.hbm, 241, rfl⟩
abbrev main_v156 : Ref sig .tc := ⟨.hbm, 242, rfl⟩
abbrev main_cst_41 : Ref sig .tc := ⟨.hbm, 243, rfl⟩
abbrev main_v157 : Ref sig .tc := ⟨.hbm, 244, rfl⟩
abbrev main_v158 : Ref sig .tc := ⟨.hbm, 245, rfl⟩
abbrev main_cst_42 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩

abbrev nD : Nat := 1
abbrev τ : Topo := Topo.v7x

variable {F : FTy → Type} [FloatOps F]
-- ==== Proof.Arrays.lean ====
/-
  The four result arrays of the pipelined region, index by index: every grid point handles one batch, so entry
  (b, p, q) of an array is entry (0, p, q) of what point b stores.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Arrays

open Idealize.ShloMosaic Idealize.ShloMosaic.TcCoe Idealize.SL.Sem
open Idealize.ShloMosaic.Pipeline (Dat)
open Idealize.ShloMosaic (ix1 ix2 ix3 ix4)
open Cert.KernelIdeal Cert.KernelIdeal.Gen

variable {F : FTy → Type} [FloatOps F]
variable (m : (ℓ : Loc nD τ sig) → Buf (Elt F) ℓ)

/-- The grid point of batch `b`. -/
def pt (b : Fin 2) : Fin cfg0.N := ⟨b.val, by have : cfg0.N = 2 := N_0; omega⟩

/-- What point `b` stores through each of the four output windows. -/
def stored9 (c : Dev nD) (t : Fin cfg0.N) : Vec F S1x32x1024 .f32 :=
  out0_9 (iblk m c 0 t) (iblk m c 1 t) (iblk m c 2 t) (iblk m c 3 t) (iblk m c 4 t) (iblk m c 5 t) (iblk m c 6 t) (iblk m c 7 t) (iblk m c 8 t)
/-- Through window 10. -/
def stored10 (c : Dev nD) (t : Fin cfg0.N) : Vec F S1x32x1024 .f32 :=
  out0_10 (iblk m c 0 t) (iblk m c 1 t) (iblk m c 2 t) (iblk m c 3 t) (iblk m c 4 t) (iblk m c 5 t) (iblk m c 6 t) (iblk m c 7 t) (iblk m c 8 t)
/-- Through window 11. -/
def stored11 (c : Dev nD) (t : Fin cfg0.N) : Vec F S1x64x1024 .f32 :=
  out0_11 (iblk m c 0 t) (iblk m c 1 t) (iblk m c 2 t) (iblk m c 3 t) (iblk m c 4 t) (iblk m c 5 t) (iblk m c 6 t) (iblk m c 7 t) (iblk m c 8 t)
/-- Through window 12. -/
def stored12 (c : Dev nD) (t : Fin cfg0.N) : Vec F S1x2x1024 .f32 :=
  out0_12 (iblk m c 0 t) (iblk m c 1 t) (iblk m c 2 t) (iblk m c 3 t) (iblk m c 4 t) (iblk m c 5 t) (iblk m c 6 t) (iblk m c 7 t) (iblk m c 8 t)

/-- The array of stored blocks, batch by batch. -/
def stack {n : ℕ} (f : Fin cfg0.N → Vec F ⟨3, ![1, n, 1024]⟩ .f32) : Vec F ⟨3, ![2, n, 1024]⟩ .f32 :=
  fun j => f (pt (j 0)) (ix3 0 (j 1) (j 2))

theorem idx9 : ∀ t : Fin cfg0.N, win0_9.index t = ![t.val, 0, 0] := by decide +kernel
theorem idx10 : ∀ t : Fin cfg0.N, win0_10.index t = ![t.val, 0, 0] := by decide +kernel
theorem idx11 : ∀ t : Fin cfg0.N, win0_11.index t = ![t.val, 0, 0] := by decide +kernel
theorem idx12 : ∀ t : Fin cfg0.N, win0_12.index t = ![t.val, 0, 0] := by decide +kernel

/-- An index of one block is (0, p, q), and sits in the stack at its point's batch. -/
theorem stack_at {n : ℕ} (f : Fin cfg0.N → Vec F ⟨3, ![1, n, 1024]⟩ .f32) (t : Fin cfg0.N)
    (y : Shape.Idx ⟨3, ![1, n, 1024]⟩) (e : Shape.Idx ⟨3, ![2, n, 1024]⟩)
    (h0 : (e 0).val = t.val) (h1 : (e 1).val = (y 1).val) (h2 : (e 2).val = (y 2).val) : f t y = stack f e := by
  have ht : pt (e 0) = t := Fin.ext h0
  have hy : y = ix3 0 (e 1) (e 2) := by
    funext a
    match a with
    | ⟨0, _⟩ => exact Subsingleton.elim (α := Fin 1) _ _
    | ⟨1, _⟩ => exact Fin.ext h1.symm
    | ⟨2, _⟩ => exact Fin.ext h2.symm
  exact (congrArg (f t) hy).trans (by unfold stack; rw [ht]; rfl)

/-- The array of window 9 after the run. -/
theorem final9 (c : Dev nD) : (dats m 0 c).arrAt 9 cfg0.N = stack (stored9 m c) := by
  refine (dats m 0 c).arrAt_eq_of_covers 9 _ (by decide +kernel) fun t hf y => ?_
  blk_simp
  rw [after0_9]
  exact stack_at (stored9 m c) t y _ (by blk_simp [idx9]) (by blk_simp [idx9]) (by blk_simp [idx9])
/-- The array of window 10 after the run. -/
theorem final10 (c : Dev nD) : (dats m 0 c).arrAt 10 cfg0.N = stack (stored10 m c) := by
  refine (dats m 0 c).arrAt_eq_of_covers 10 _ (by decide +kernel) fun t hf y => ?_
  blk_simp
  rw [after0_10]
  exact stack_at (stored10 m c) t y _ (by blk_simp [idx10]) (by blk_simp [idx10]) (by blk_simp [idx10])
/-- The array of window 11 after the run. -/
theorem final11 (c : Dev nD) : (dats m 0 c).arrAt 11 cfg0.N = stack (stored11 m c) := by
  refine (dats m 0 c).arrAt_eq_of_covers 11 _ (by decide +kernel) fun t hf y => ?_
  blk_simp
  rw [after0_11]
  exact stack_at (stored11 m c) t y _ (by blk_simp [idx11]) (by blk_simp [idx11]) (by blk_simp [idx11])
/-- The array of window 12 after the run. -/
theorem final12 (c : Dev nD) : (dats m 0 c).arrAt 12 cfg0.N = stack (stored12 m c) := by
  refine (dats m 0 c).arrAt_eq_of_covers 12 _ (by decide +kernel) fun t hf y => ?_
  blk_simp
  rw [after0_12]
  exact stack_at (stored12 m c) t y _ (by blk_simp [idx12]) (by blk_simp [idx12]) (by blk_simp [idx12])

/-! ## The region's inputs -/

theorem idx0 : ∀ t : Fin cfg0.N, win0_0.index t = ![t.val, 0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel

theorem emb3 {n k : ℕ} (e : Shape.Idx ⟨3, ![2, n, k]⟩) (b : Fin 2) (p : Fin n) (q : Fin k)
    (h0 : (e 0).val = b.val) (h1 : (e 1).val = p.val) (h2 : (e 2).val = q.val) : e = ix3 b p q := by
  funext a
  match a with
  | ⟨0, _⟩ => exact Fin.ext h0
  | ⟨1, _⟩ => exact Fin.ext h1
  | ⟨2, _⟩ => exact Fin.ext h2

theorem emb2 {n k : ℕ} (e : Shape.Idx ⟨2, ![n, k]⟩) (p : Fin n) (q : Fin k)
    (h1 : (e 0).val = p.val) (h2 : (e 1).val = q.val) : e = ix2 p q := by
  funext a
  match a with
  | ⟨0, _⟩ => exact Fin.ext h1
  | ⟨1, _⟩ => exact Fin.ext h2

end Cert.Proof.Arrays
-- ==== Proof.Mask.lean ====
/-
  The mask brought down from 512 × 512 to the 32 × 32 grid of positions: each of the two programs' readings of it is
  the same double sum of products with interpolation weights.
-/
module

public import proofs.«01_k».proof.Proof.Gen.KernelIdeal.Frame
public import proofs.«01_k».proof.Proof.Gen.ReferenceIdeal.Run
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Proof.Mask

open Idealize.ShloMosaic Idealize.ShloMosaic.TcCoe
open Idealize.ShloMosaic (ix1 ix2 ix3 ix4)

/-- Where position `k` of the small grid is centred on the large one. -/
def centre (k : ℕ) : EReal :=
  (FloatOps.sitofp (F := Ideal) FTy.f32 (BitVec.ofNat 32 k) + Ideal.ofBits FTy.f32 1056964608#32)
    * Ideal.ofBits FTy.f32 1098907648#32 - Ideal.ofBits FTy.f32 1056964608#32

/-- The triangle function of position `k` at large position `x`. -/
def hat (k : ℕ) (x : Fin 512) : EReal :=
  max 0 (1 - FloatOps.absf (F := Ideal) (φ := .f32) (Ideal.div
    (FloatOps.absf (F := Ideal) (φ := .f32) (centre k - FloatOps.sitofp (F := Ideal) FTy.f32 (BitVec.ofNat 32 x.val)))
    (max (Ideal.ofBits FTy.f32 1098907648#32) 1)))

open Classical in
/-- The interpolation weight: the triangle function over its sum. -/
def weight (k : ℕ) (x : Fin 512) : EReal :=
  Scalar.select
    (IntOp.andi (BitVec.ofBool (decide (Ideal.ofBits FTy.f32 3204448256#32 ≤ centre k)))
      (BitVec.ofBool (decide (centre k ≤ Ideal.ofBits FTy.f32 1140834304#32))))
    (if Ideal.ofBits FTy.f32 955908096#32 < FloatOps.absf (F := Ideal) (φ := .f32) (∑ y, hat k y) then
      Ideal.div (hat k x) (if ∑ y, hat k y ≠ 0 then ∑ y, hat k y else FloatOps.sitofp (F := Ideal) FTy.f32 1#32)
    else FloatOps.sitofp (F := Ideal) FTy.f32 0#32)
    (FloatOps.sitofp (F := Ideal) FTy.f32 0#32)

/-- The small mask before the threshold. -/
def level (M : Fin 512 → Fin 512 → EReal) (p : Fin 1024) : EReal :=
  ∑ x, (∑ y, weight (p.val / 32) y * M y x) * weight (p.val % 32) x

theorem sel_left (c : BitVec 1) (a b : EReal) : Scalar.select c (a * b) 0 = Scalar.select c a 0 * b := by
  unfold Scalar.select; split <;> simp

theorem sel_right (c : BitVec 1) (a b : EReal) : Scalar.select c (a * b) 0 = a * Scalar.select c b 0 := by
  unfold Scalar.select; split <;> simp

theorem int_zero : FloatOps.sitofp (F := Ideal) FTy.f32 0#32 = (0 : EReal) := by
  show (((0#32 : BitVec 32).toInt : ℝ) : EReal) = 0
  simp

theorem int_one : FloatOps.sitofp (F := Ideal) FTy.f32 1#32 = (1 : EReal) := by
  show (((1#32 : BitVec 32).toInt : ℝ) : EReal) = 1
  norm_num

section Kernel
open Cert.KernelIdeal Cert.KernelIdeal.Gen
variable (m : (ℓ : Loc nD τ sig) → Buf (Elt Ideal) ℓ)

/-- The kernel's mask operand: a one where the small mask exceeds one half, else a zero. -/
theorem kernel_mask (c : Dev nD) (b : Fin 2) (p : Fin 1024) :
    (V m c main_v99 : FVec Ideal S2x1024x1 .f32) (ix3 b p 0)
      = FloatOps.uitofp (F := Ideal) FTy.f32 (BitVec.ofBool (decide (Ideal.ofBits FTy.f32 1056964608#32
          < level (fun y x => (m (c, Proc.tc.devRef main_arg2) : FVec Ideal S2x1x512x512 .f32) (ix4 b 0 y x)) p))) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl
end Kernel

section Reference
open Cert.ReferenceIdeal Cert.ReferenceIdeal.Value
variable (V : Valuation τ sig (Elt Ideal))

theorem v21_at (k : Fin 32) : (res_main_v21 V : FVec Ideal S32 .f32) (ix1 k) = centre k := by
  pointwise [res_main_v21]
  rfl
theorem v69_at (k : Fin 32) : (res_main_v69 V : FVec Ideal S32 .f32) (ix1 k) = centre k := by
  pointwise [res_main_v69]
  rfl
theorem v36_at (k : Fin 32) (x : Fin 512) : (res_main_v36 V : FVec Ideal S512x32 .f32) (ix2 x k) = hat k x := by
  pointwise [res_main_v36]
  rw [v21_at]
  unfold id
  pointwise
  rfl
theorem v84_at (k : Fin 32) (x : Fin 512) : (res_main_v84 V : FVec Ideal S512x32 .f32) (ix2 x k) = hat k x := by
  pointwise [res_main_v84]
  rw [v69_at]
  unfold id
  pointwise
  rfl
theorem v38_at (k : Fin 32) : (res_main_v38 V : FVec Ideal S1x32 .f32) (ix2 0 k) = ∑ x, hat k x := by
  pointwise [res_main_v38]
  show @Eq EReal _ _
  exact Finset.sum_congr rfl fun x _ => v36_at V k x
theorem v86_at (k : Fin 32) : (res_main_v86 V : FVec Ideal S1x32 .f32) (ix2 0 k) = ∑ x, hat k x := by
  pointwise [res_main_v86]
  show @Eq EReal _ _
  exact Finset.sum_congr rfl fun x _ => v84_at V k x

/-- The reference's small mask. -/
theorem reference_mask (b : Fin 2) (p : Fin 1024) :
    (res_main_v111 V : FVec Ideal S2x1x1024 .f32) (ix3 b 0 p)
      = level (fun y x => (V (Proc.tc.devRef main_arg2) : FVec Ideal S2x1x512x512 .f32) (ix4 b 0 y x)) p := by
  pointwise [res_main_v111]
  unfold level
  show @Eq EReal _ _
  refine Finset.sum_congr rfl fun x _ => ?_
  rw [sel_right]
  refine congrArg₂ (· * ·) (Finset.sum_congr rfl fun y _ => ?_) ?_
  · rw [sel_left, v21_at, v36_at, v38_at]
    unfold weight
    rw [int_zero, int_one]
  · rw [v69_at, v84_at, v86_at]
    unfold weight
    rw [int_zero, int_one]
end Reference

end Cert.Proof.Mask
-- ==== Proof.TopK.lean ====
/-
  The greatest entries of a column, as a stable sort gives them: their values by thresholds, and their positions as
  repeated choices of the first greatest entry.
-/
module

public import Idealize.ShloMosaic.Lib.Pointwise
public import Idealize.ShloMosaic.Lib.SortFacts
public import Idealize.ShloMosaic.Lib.SortPrefix

@[expose] public section

noncomputable section

namespace Cert.Proof.TopK

open Idealize.ShloMosaic

variable {n : ℕ}

/-- Greater first. -/
def above (f : Fin n → EReal) : Fin n → Fin n → Bool := fun a b => decide (f b < f a)

/-- Greater first, and of equal entries the one at the lower position. -/
def aboveAt (f : Fin n → EReal) : Fin n → Fin n → Bool :=
  fun a b => decide (f b < f a) || (decide (f a = f b) && decide (a < b))

/-! ## Values -/

theorem above_antitone (f : Fin n → EReal) (i j : Fin n) (hij : i < j) :
    f (sortedFrom (above f) j) ≤ f (sortedFrom (above f) i) := by
  have h := sortedFrom_noInversion (above f) (above f)
    (fun a b hab => by simp only [above, decide_eq_true_eq, decide_eq_false_iff_not, not_lt] at *; exact hab.le)
    (fun a b h => h)
    (fun a b c hab hbc => by
      simp only [above, decide_eq_false_iff_not, not_lt] at *; exact hab.trans hbc) i j hij
  simpa [above] using h

/-- Entry `i` of the sorted column is at least `t` exactly when more than `i` of the entries are. -/
theorem le_sorted (f : Fin n → EReal) (t : EReal) (i : Fin n) :
    t ≤ f (sortedFrom (above f) i) ↔ i.val < (Finset.univ.filter fun p => t ≤ f p).card := by
  set σ := sortedFrom (above f) with hσ
  have hbij : Function.Bijective σ := ⟨sortedFrom_injective _, sortedFrom_surjective _⟩
  have hcard : (Finset.univ.filter fun p => t ≤ f p).card = (Finset.univ.filter fun j => t ≤ f (σ j)).card := by
    refine Eq.trans (congrArg Finset.card ?_) (Finset.card_map (s := Finset.univ.filter fun j => t ≤ f (σ j)) ⟨σ, hbij.1⟩)
    ext p
    obtain ⟨j, rfl⟩ := hbij.2 p
    simp only [Finset.mem_filter, Finset.mem_univ, true_and, Finset.mem_map, Function.Embedding.coeFn_mk]
    constructor
    · intro h; exact ⟨j, h, rfl⟩
    · rintro ⟨j', h, e⟩; rw [← e]; exact h
  rw [hcard]
  constructor
  · intro h
    have hs : Finset.Iic i ⊆ Finset.univ.filter fun j => t ≤ f (σ j) := by
      intro j hj
      rw [Finset.mem_Iic] at hj
      rw [Finset.mem_filter]
      refine ⟨Finset.mem_univ _, ?_⟩
      rcases hj.lt_or_eq with hlt | rfl
      · exact h.trans (above_antitone f _ _ hlt)
      · exact h
    have := Finset.card_le_card hs
    rw [Fin.card_Iic] at this
    omega
  · intro h
    by_contra hn
    have hs : (Finset.univ.filter fun j => t ≤ f (σ j)) ⊆ Finset.Iio i := by
      intro j hj
      rw [Finset.mem_filter] at hj
      rw [Finset.mem_Iio]
      by_contra hji
      rcases (not_lt.mp hji).lt_or_eq with hlt | rfl
      · exact hn (hj.2.trans (above_antitone f _ _ hlt))
      · exact hn hj.2
    have := Finset.card_le_card hs
    rw [Fin.card_Iio] at this
    omega

/-! ## Positions -/

theorem stableSort_congr_lt (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Sorting stably by the entries alone is sorting by the entries and then the positions. -/
theorem sorted_at (f : Fin n → EReal) : sortedFrom (above f) = sortedFrom (aboveAt f) := by
  have e : sortPositions n (above f) = sortPositions n (aboveAt f) :=
    stableSort_congr_lt _ _ _ (List.pairwise_lt_finRange n) fun a b hab => by
      simp [above, aboveAt, not_lt.mpr hab.le]
  funext k
  unfold sortedFrom
  rw [List.get_of_eq e]
  rfl

theorem aboveAt_strict (f : Fin n → EReal) : StrictTotalBefore (aboveAt f) :=
  StrictTotalBefore.of_key_then_position (fun x y : EReal => decide (y < x)) f (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- `p` is the first position at which `w` is greatest. -/
def First (w : Fin n → EReal) (p : Fin n) : Prop := (∀ q, w q ≤ w p) ∧ ∀ q, q < p → w q < w p

/-- The entries with position `p` set to `z`. -/
def without (z : EReal) (w : Fin n → EReal) (p : Fin n) : Fin n → EReal := fun q => if q = p then z else w q

/-- Choosing the first greatest entry and setting it to a value under every entry, over and over, chooses the positions
    of the greatest entries in the order of the stable sort. -/
theorem choices {k : ℕ} (hk : k ≤ n) (z : EReal) (f : Fin n → EReal) (hz : ∀ p, z < f p) (w : ℕ → Fin n → EReal)
    (σ : ℕ → Fin n) (h0 : w 0 = f) (hw : ∀ i, w (i + 1) = without z (w i) (σ i)) (hσ : ∀ i, First (w i) (σ i)) (i : Fin k) :
    sortedFrom (above f) (i.castLE hk) = σ i := by
  have hwi : ∀ i p, w i p = if ∃ j < i, σ j = p then z else f p := by
    intro i
    induction i with
    | zero => intro p; simp [h0]
    | succ i ih =>
      intro p
      rw [hw, without]
      by_cases hp : p = σ i
      · rw [if_pos hp, if_pos ⟨i, Nat.lt_succ_self i, hp.symm⟩]
      · rw [if_neg hp, ih]
        congr 1
        refine propext ⟨fun ⟨j, hj, e⟩ => ⟨j, hj.trans (Nat.lt_succ_self i), e⟩, fun ⟨j, hj, e⟩ => ⟨j, ?_, e⟩⟩
        rcases Nat.lt_succ_iff_lt_or_eq.mp hj with h | rfl
        · exact h
        · exact absurd e.symm hp
  have hfresh : ∀ i, i < n → ¬ ∃ j < i, σ j = σ i := by
    intro i hi hex
    have hcov : ∃ p, ¬ ∃ j < i, σ j = p := by
      by_contra hall
      push Not at hall
      have hs : (Finset.univ : Finset (Fin n)) ⊆ (Finset.range i).image σ := by
        intro p _
        obtain ⟨j, hj, e⟩ := hall p
        exact Finset.mem_image.mpr ⟨j, Finset.mem_range.mpr hj, e⟩
      have := (Finset.card_le_card hs).trans Finset.card_image_le
      rw [Finset.card_univ, Fintype.card_fin, Finset.card_range] at this
      omega
    obtain ⟨p, hp⟩ := hcov
    have h1 := (hσ i).1 p
    rw [hwi, hwi, if_neg hp, if_pos hex] at h1
    exact absurd (hz p) (not_lt.mpr h1)
  have hkey : ∀ i, i < n → ∀ p, (¬ ∃ j < i, σ j = p) → aboveAt f p (σ i) = false := by
    intro i hi p hp
    have h1 := (hσ i).1 p
    rw [hwi, hwi, if_neg hp, if_neg (hfresh i hi)] at h1
    have h2 : ∀ q, q < σ i → q = p → f p ≠ f (σ i) := by
      intro q hq hqp
      have h3 := (hσ i).2 q hq
      rw [hqp, hwi, hwi, if_neg hp, if_neg (hfresh i hi)] at h3
      exact h3.ne
    simp only [aboveAt, Bool.or_eq_false_iff, decide_eq_false_iff_not, not_lt, Bool.and_eq_false_iff]
    refine ⟨h1, ?_⟩
    by_cases hlt : p < σ i
    · exact Or.inl (h2 p hlt rfl)
    · exact Or.inr (by simpa using hlt)
  have hinj : ∀ i j, i < j → j < n → σ i ≠ σ j := fun i j hij hj e => hfresh j hj ⟨i, hij, e⟩
  rw [sorted_at]
  refine (aboveAt_strict f).sortedFrom_eq_of_prefix hk (fun i : Fin k => σ i) ?_ ?_ ?_ i
  · intro i j e
    rcases lt_trichotomy i.val j.val with h | h | h
    · exact absurd e (hinj _ _ h (j.isLt.trans_le hk))
    · exact Fin.ext h
    · exact absurd e.symm (hinj _ _ h (i.isLt.trans_le hk))
  · intro i j hij
    refine hkey i (i.isLt.trans_le hk) _ ?_
    rintro ⟨l, hl, e⟩
    exact hinj l j (lt_trans hl hij) (j.isLt.trans_le hk) e
  · intro i p hp
    refine hkey i (i.isLt.trans_le hk) p ?_
    rintro ⟨l, hl, e⟩
    exact hp ⟨l, hl.trans i.isLt⟩ e

end Cert.Proof.TopK

end
-- ==== Proof.Spec.lean ====
/-
  The mathematics both programs compute, over the extended reals: correlations of unit feature vectors, the greatest
  entries of each column inside and outside the mask, the structure at the best scored positions, and the two heads.
-/
module

public import proofs.«01_k».proof.Proof.TopK
public import Idealize.ShloMosaic.Lib.Pointwise

@[expose] public section

noncomputable section

namespace Cert.Proof

open Idealize.ShloMosaic

/-- The row of position `p` on the 32 × 32 grid, or a channel's group. -/
def hi (p : Fin 1024) : Fin 32 := ⟨p.val / 32, by omega⟩
/-- Its column, or a channel's place in its group. -/
def lo (p : Fin 1024) : Fin 32 := ⟨p.val % 32, by omega⟩
/-- The position in row `i` and column `j`. -/
def at' (i j : Fin 32) : Fin 1024 := ⟨i.val * 32 + j.val, by omega⟩

theorem hi_at (i j : Fin 32) : hi (at' i j) = i := Fin.ext (by show (i.val * 32 + j.val) / 32 = i.val; omega)
theorem lo_at (i j : Fin 32) : lo (at' i j) = j := Fin.ext (by show (i.val * 32 + j.val) % 32 = j.val; omega)
theorem at_hi_lo (p : Fin 1024) : at' (hi p) (lo p) = p := Fin.ext (by show p.val / 32 * 32 + p.val % 32 = p.val; omega)

/-- The arguments, entry by entry: batch, channel, position. -/
structure Args where
  /-- reference features -/
  r : Fin 2 → Fin 1024 → Fin 1024 → EReal
  /-- current features -/
  u : Fin 2 → Fin 1024 → Fin 1024 → EReal
  /-- the mask on the small grid -/
  k : Fin 2 → Fin 1024 → EReal
  /-- group convolution -/
  wg : Fin 1024 → Fin 32 → EReal
  /-- its bias -/
  bg : Fin 1024 → EReal
  /-- global convolution -/
  wl : Fin 32 → Fin 1024 → EReal
  /-- its bias -/
  bl : Fin 32 → EReal
  /-- classifier -/
  wc : Fin 2 → Fin 64 → EReal
  /-- its bias -/
  bc : Fin 2 → EReal

/-- A vector over its length, the length kept from zero. -/
def unit (f : Fin 1024 → EReal) (c : Fin 1024) : EReal :=
  Ideal.div (f c) (max (Ideal.sqrt (∑ x, f x * f x)) (Ideal.ofBits .f32 730643660#32))

namespace Args

variable (a : Args)

/-- Correlation of reference position `p` with current position `q`. -/
def corr (b : Fin 2) (p q : Fin 1024) : EReal :=
  ∑ c, unit (fun c => a.r b c p) c * unit (fun c => a.u b c q) c

/-- One inside the mask, zero outside. -/
def inside (b : Fin 2) (p : Fin 1024) : EReal := if Ideal.ofBits .f32 1056964608#32 < a.k b p then 1 else 0
/-- One outside the mask, zero inside. -/
def outside (b : Fin 2) (p : Fin 1024) : EReal := if Ideal.ofBits .f32 1056964608#32 < a.k b p then 0 else 1

/-- Correlation with the foreground. -/
def fg (b : Fin 2) (p q : Fin 1024) : EReal := a.corr b p q * a.inside b p
/-- Correlation with the background. -/
def bgd (b : Fin 2) (p q : Fin 1024) : EReal := a.corr b p q * a.outside b p
/-- A position's score: all its correlation with the foreground. -/
def score (b : Fin 2) (q : Fin 1024) : EReal := ∑ p, a.fg b p q

/-- The `i`-th greatest value of a column. -/
def nth (f : Fin 1024 → EReal) (i : Fin 32) : EReal := f (sortedFrom (TopK.above f) (i.castLE (by decide)))

/-- The position with the `i`-th greatest score, the earlier first among equals. -/
def pick (b : Fin 2) (i : Fin 32) : Fin 1024 := sortedFrom (TopK.above (a.score b)) (i.castLE (by decide))

/-- The structure: the chosen positions' reference features against every position's. -/
def struct (b : Fin 2) (i : Fin 32) (q : Fin 1024) : EReal := ∑ c, a.r b c (a.pick b i) * a.r b c q

/-- The group half. -/
def group (b : Fin 2) (z : Fin 32) (q : Fin 1024) : EReal :=
  ∑ x, a.struct b x q * max (∑ y, a.r b (at' x y) q * a.wg (at' x z) y + a.bg (at' x z)) 0

/-- The global half. -/
def global (b : Fin 2) (z : Fin 32) (q : Fin 1024) : EReal :=
  Ideal.div (∑ x, a.struct b x q) (Ideal.ofBits .f32 1107296256#32) * max (∑ c, a.r b c q * a.wl z c + a.bl z) 0

/-- Both halves. -/
def both (b : Fin 2) (z : Fin 64) (q : Fin 1024) : EReal :=
  if h : z.val < 32 then a.group b ⟨z.val, h⟩ q else a.global b ⟨z.val - 32, by omega⟩ q

/-- The classifier's output. -/
def seg (b : Fin 2) (z : Fin 2) (q : Fin 1024) : EReal := ∑ x, a.wc z x * a.both b x q + a.bc z

end Args

end Cert.Proof
-- ==== Proof.Entry.lean ====
/-
  What the kernel body finds in its nine input blocks at each grid point, as entries of the program's arguments.
-/
module

public import proofs.«01_k».proof.Proof.Arrays
public import proofs.«01_k».proof.Proof.Mask
public import proofs.«01_k».proof.Proof.Spec

@[expose] public section

set_option maxRecDepth 16384

noncomputable section

namespace Cert.Proof.Entry

open Idealize.ShloMosaic Idealize.ShloMosaic.TcCoe
open Idealize.ShloMosaic (ix1 ix2 ix3 ix4)
open Cert.KernelIdeal Cert.KernelIdeal.Gen
open Cert.Proof.Arrays Cert.Proof.Mask

variable (m : (ℓ : Loc nD τ sig) → Buf (Elt Ideal) ℓ)

/-- The kernel's arguments on device `c`. -/
def args (c : Dev nD) : Args where
  r b ch p := (m (c, Proc.tc.devRef main_arg0) : FVec Ideal S2x1024x32x32 .f32) (ix4 b ch (hi p) (lo p))
  u b ch p := (m (c, Proc.tc.devRef main_arg1) : FVec Ideal S2x1024x32x32 .f32) (ix4 b ch (hi p) (lo p))
  k b p := level (fun y x => (m (c, Proc.tc.devRef main_arg2) : FVec Ideal S2x1x512x512 .f32) (ix4 b 0 y x)) p
  wg n y := (m (c, Proc.tc.devRef main_arg3) : FVec Ideal S1024x32x1x1 .f32) (ix4 n y 0 0)
  bg n := (m (c, Proc.tc.devRef main_arg4) : FVec Ideal S1024 .f32) (ix1 n)
  wl z n := (m (c, Proc.tc.devRef main_arg5) : FVec Ideal S32x1024x1x1 .f32) (ix4 z n 0 0)
  bl z := (m (c, Proc.tc.devRef main_arg6) : FVec Ideal S32 .f32) (ix1 z)
  wc z x := (m (c, Proc.tc.devRef main_arg7) : FVec Ideal S2x64x1x1 .f32) (ix4 z x 0 0)
  bc z := (m (c, Proc.tc.devRef main_arg8) : FVec Ideal S2 .f32) (ix1 z)

/-- The bit of a comparison as a number. -/
theorem bit_number (p : Prop) [Decidable p] :
    FloatOps.uitofp (F := Ideal) FTy.f32 (BitVec.ofBool (decide p)) = (if p then 1 else 0 : EReal) := by
  show (((BitVec.ofBool (decide p)).toNat : ℝ) : EReal) = _
  by_cases h : p <;> simp [h]

/-- The bit of two equal group numbers, as a number. -/
theorem same_word (x y : ℕ) (hx : x < 32) (hy : y < 32) (i j : Fin 32) (hi : i.val = x) (hj : j.val = y) :
    FloatOps.uitofp (F := Ideal) FTy.f32 (IntOp.cmpi .eq (IntOp.addi (BitVec.ofNat 32 x) 0#32) (BitVec.ofNat 32 y))
      = (if i = j then 1 else 0 : EReal) := by
  have hz : IntOp.addi (BitVec.ofNat 32 x) 0#32 = BitVec.ofNat 32 x := BitVec.add_zero _
  rw [hz]
  by_cases h : i = j
  · have e : x = y := by rw [← hi, ← hj, h]
    rw [if_pos h, e]
    have : IntOp.cmpi .eq (BitVec.ofNat 32 y) (BitVec.ofNat 32 y) = 1#1 := by simp [IntOp.cmpi]
    rw [this]
    show (((1#1 : BitVec 1).toNat : ℝ) : EReal) = 1
    norm_num
  · have e : BitVec.ofNat 32 x ≠ BitVec.ofNat 32 y := by
      intro e
      have := congrArg BitVec.toNat e
      simp only [BitVec.toNat_ofNat] at this
      exact h (Fin.ext (by omega))
    rw [if_neg h]
    have : IntOp.cmpi .eq (BitVec.ofNat 32 x) (BitVec.ofNat 32 y) = 0#1 := by
      show BitVec.ofBool (BitVec.ofNat 32 x == BitVec.ofNat 32 y) = 0#1
      rw [beq_eq_false_iff_ne.mpr e]; rfl
    rw [this]
    show (((0#1 : BitVec 1).toNat : ℝ) : EReal) = 0
    norm_num

/-- The current features of batch `b`. -/
theorem block0_at (c : Dev nD) (b : Fin 2) (p q : Fin 1024) :
    (iblk m c 0 (pt b) : FVec Ideal S1x1024x1024 .f32) (ix3 0 p q) = (args m c).u b p q := by
  have e : (iblk m c 0 (pt b) : FVec Ideal S1x1024x1024 .f32) (ix3 0 p q) = (V m c main_v100 : FVec Ideal S2x1024x1024 .f32) (ix3 b p q) := by
    blk_simp [iblk]
    exact congrArg (V m c main_v100 : FVec Ideal S2x1024x1024 .f32) (emb3 _ _ _ _ (by blk_simp [idx0]; rfl) (by blk_simp [idx0]) (by blk_simp [idx0]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

/-- The reference features of batch `b`. -/
theorem block1_at (c : Dev nD) (b : Fin 2) (p q : Fin 1024) :
    (iblk m c 1 (pt b) : FVec Ideal S1x1024x1024 .f32) (ix3 0 p q) = (args m c).r b p q := by
  have e : (iblk m c 1 (pt b) : FVec Ideal S1x1024x1024 .f32) (ix3 0 p q) = (V m c main_v101 : FVec Ideal S2x1024x1024 .f32) (ix3 b p q) := by
    blk_simp [iblk]
    exact congrArg (V m c main_v101 : FVec Ideal S2x1024x1024 .f32) (emb3 _ _ _ _ (by blk_simp [idx1]; rfl) (by blk_simp [idx1]) (by blk_simp [idx1]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

/-- The mask of batch `b`. -/
theorem block2_at (c : Dev nD) (b : Fin 2) (p : Fin 1024) :
    (iblk m c 2 (pt b) : FVec Ideal S1x1024x1 .f32) (ix3 0 p 0) = (args m c).inside b p := by
  have e : (iblk m c 2 (pt b) : FVec Ideal S1x1024x1 .f32) (ix3 0 p 0) = (V m c main_v99 : FVec Ideal S2x1024x1 .f32) (ix3 b p 0) := by
    blk_simp [iblk]
    exact congrArg (V m c main_v99 : FVec Ideal S2x1024x1 .f32) (emb3 _ _ _ _ (by blk_simp [idx2]; rfl) (by blk_simp [idx2]) (by blk_simp [idx2]))
  rw [e]
  rw [kernel_mask, bit_number]
  rfl

/-- The group convolution's weights laid out on the block diagonal. -/
theorem block3_at (c : Dev nD) (b : Fin 2) (p q : Fin 1024) :
    (iblk m c 3 (pt b) : FVec Ideal S1024x1024 .f32) (ix2 p q) = (args m c).wg p (lo q) * (if hi p = hi q then 1 else 0) := by
  have e : (iblk m c 3 (pt b) : FVec Ideal S1024x1024 .f32) (ix2 p q) = (V m c main_v115 : FVec Ideal S1024x1024 .f32) (ix2 p q) := by
    blk_simp [iblk]
    exact congrArg (V m c main_v115 : FVec Ideal S1024x1024 .f32) (emb2 _ _ _ (by blk_simp [idx3]) (by blk_simp [idx3]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  have hw := same_word (p.val / 32) (q.val / 32) (by omega) (by omega) (hi p) (hi q) rfl rfl
  have hp : (args m c).wg (at' (hi p) (lo p)) (lo q) = (args m c).wg p (lo q) := by rw [at_hi_lo]
  exact congrArg₂ (fun x y : EReal => x * y) hp hw

/-- Its bias. -/
theorem block4_at (c : Dev nD) (b : Fin 2) (p : Fin 1024) :
    (iblk m c 4 (pt b) : FVec Ideal S1024x1 .f32) (ix2 p 0) = (args m c).bg p := by
  have e : (iblk m c 4 (pt b) : FVec Ideal S1024x1 .f32) (ix2 p 0) = (V m c main_v118 : FVec Ideal S1024x1 .f32) (ix2 p 0) := by
    blk_simp [iblk]
    exact congrArg (V m c main_v118 : FVec Ideal S1024x1 .f32) (emb2 _ _ _ (by blk_simp [idx4]) (by blk_simp [idx4]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

/-- The global convolution's weights. -/
theorem block5_at (c : Dev nD) (b : Fin 2) (p : Fin 32) (q : Fin 1024) :
    (iblk m c 5 (pt b) : FVec Ideal S32x1024 .f32) (ix2 p q) = (args m c).wl p q := by
  have e : (iblk m c 5 (pt b) : FVec Ideal S32x1024 .f32) (ix2 p q) = (V m c main_v116 : FVec Ideal S32x1024 .f32) (ix2 p q) := by
    blk_simp [iblk]
    exact congrArg (V m c main_v116 : FVec Ideal S32x1024 .f32) (emb2 _ _ _ (by blk_simp [idx5]) (by blk_simp [idx5]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

/-- Its bias. -/
theorem block6_at (c : Dev nD) (b : Fin 2) (p : Fin 32) :
    (iblk m c 6 (pt b) : FVec Ideal S32x1 .f32) (ix2 p 0) = (args m c).bl p := by
  have e : (iblk m c 6 (pt b) : FVec Ideal S32x1 .f32) (ix2 p 0) = (V m c main_v119 : FVec Ideal S32x1 .f32) (ix2 p 0) := by
    blk_simp [iblk]
    exact congrArg (V m c main_v119 : FVec Ideal S32x1 .f32) (emb2 _ _ _ (by blk_simp [idx6]) (by blk_simp [idx6]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

/-- The classifier's weights. -/
theorem block7_at (c : Dev nD) (b : Fin 2) (p : Fin 2) (q : Fin 64) :
    (iblk m c 7 (pt b) : FVec Ideal S2x64 .f32) (ix2 p q) = (args m c).wc p q := by
  have e : (iblk m c 7 (pt b) : FVec Ideal S2x64 .f32) (ix2 p q) = (V m c main_v117 : FVec Ideal S2x64 .f32) (ix2 p q) := by
    blk_simp [iblk]
    exact congrArg (V m c main_v117 : FVec Ideal S2x64 .f32) (emb2 _ _ _ (by blk_simp [idx7]) (by blk_simp [idx7]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

/-- Its bias. -/
theorem block8_at (c : Dev nD) (b : Fin 2) (p : Fin 2) :
    (iblk m c 8 (pt b) : FVec Ideal S2x1 .f32) (ix2 p 0) = (args m c).bc p := by
  have e : (iblk m c 8 (pt b) : FVec Ideal S2x1 .f32) (ix2 p 0) = (V m c main_v120 : FVec Ideal S2x1 .f32) (ix2 p 0) := by
    blk_simp [iblk]
    exact congrArg (V m c main_v120 : FVec Ideal S2x1 .f32) (emb2 _ _ _ (by blk_simp [idx8]) (by blk_simp [idx8]))
  rw [e]
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_at
  rfl

end Cert.Proof.Entry
-- ==== Proof.Network.lean ====
/-
  The bitonic network of the kernel, on one column of a linear order: the compare-exchange stages, the sort of
  every block of 32, and the merges of neighbouring blocks that keep the 32 greatest. Then the network on
  one block of bits as a finite table: ones from both ends of a block are put in order by a merge.
-/
module

public import Idealize.ShloMosaic.Lib.Pointwise

@[expose] public section

namespace Cert.Proof.Bitonic

/-- Whether the stage at distance `d` in blocks of `s` keeps the greater of a pair at place `p`. -/
def up (d s p : ℕ) : Bool := decide (p &&& d = 0) == decide (p &&& s = 0)

/-- One compare-exchange stage: place `p` meets place `p xor d`. -/
def stage {α : Type*} [LinearOrder α] (d s : ℕ) (f : ℕ → α) : ℕ → α :=
  fun p => if up d s p then max (f p) (f (p ^^^ d)) else min (f p) (f (p ^^^ d))

/-- Stages at the distances of a list, in blocks of `s`. -/
def stages {α : Type*} [LinearOrder α] (s : ℕ) : List ℕ → (ℕ → α) → ℕ → α
  | [], f => f
  | d :: ds, f => stages s ds (stage d s f)

/-- Neighbouring blocks of 32 met element by element, the greater kept. -/
def halve {α : Type*} [LinearOrder α] (f : ℕ → α) : ℕ → α :=
  fun p => max (f (64 * (p / 32) + p % 32)) (f (64 * (p / 32) + 32 + p % 32))

/-- Every block of 32 sorted, alternately descending and ascending. -/
def sort32 {α : Type*} [LinearOrder α] (f : ℕ → α) : ℕ → α :=
  stages 32 [16, 8, 4, 2, 1] (stages 16 [8, 4, 2, 1] (stages 8 [4, 2, 1] (stages 4 [2, 1] (stages 2 [1] f))))

/-- Two neighbouring blocks made into one that holds the 32 greatest of both, sorted. -/
def fold {α : Type*} [LinearOrder α] (f : ℕ → α) : ℕ → α := stages 32 [16, 8, 4, 2, 1] (halve f)

/-- The whole network on a column of 1024. -/
def top {α : Type*} [LinearOrder α] (f : ℕ → α) : ℕ → α := fold (fold (fold (fold (fold (sort32 f)))))

/-! ## Thresholds -/

section Cut
variable {α β : Type*} [LinearOrder α] [LinearOrder β] {g : α → β} (hg : Monotone g)
include hg

/-- A monotone map goes through a stage. -/
theorem stage_map (d s : ℕ) (f : ℕ → α) : (fun p => g (stage d s f p)) = stage d s fun p => g (f p) := by
  funext p
  unfold stage
  split
  · exact hg.map_max
  · exact hg.map_min

/-- A monotone map goes through a list of stages. -/
theorem stages_map (s : ℕ) (ds : List ℕ) (f : ℕ → α) :
    (fun p => g (stages s ds f p)) = stages s ds fun p => g (f p) := by
  induction ds generalizing f with
  | nil => rfl
  | cons d ds ih => simp only [stages, ih, stage_map hg]

/-- A monotone map goes through a merge of neighbouring blocks. -/
theorem fold_map (f : ℕ → α) : (fun p => g (fold f p)) = fold fun p => g (f p) := by
  unfold fold
  rw [stages_map hg]
  exact congrArg _ (funext fun p => hg.map_max)

/-- A monotone map goes through the whole network. -/
theorem top_map (f : ℕ → α) : (fun p => g (top f p)) = top fun p => g (f p) := by
  unfold top sort32
  simp only [fold_map hg, stages_map hg]

end Cut

/-! ## The network on a block of bits -/

/-- A stage inside one block, whose direction is `dir`. -/
def stageL (dir : Bool) (d : ℕ) (f : ℕ → Bool) : ℕ → Bool :=
  fun i => if decide (i &&& d = 0) == dir then f i || f (i ^^^ d) else f i && f (i ^^^ d)

/-- Stages inside one block. -/
def stagesL (dir : Bool) : List ℕ → (ℕ → Bool) → ℕ → Bool
  | [], f => f
  | d :: ds, f => stagesL dir ds (stageL dir d f)

/-- Ones from both ends of a block of `s`: `a` at its beginning, `b` at its end. -/
def ends (s a b : ℕ) : ℕ → Bool := fun i => decide (i < a) || decide (s - b ≤ i)

/-- `c` ones of a block of `s`, at its beginning when `dir`, else at its end. -/
def ordered (dir : Bool) (s c : ℕ) : ℕ → Bool := fun i => if dir then decide (i < c) else decide (s - c ≤ i)

/-- The distances of a merge to blocks of `2 ^ k`. -/
def dists (k : ℕ) : List ℕ := (List.range k).reverse.map (2 ^ ·)

/-- A merge to blocks of 2 to 16 puts ones from both ends of a block in order. -/
theorem merge_check_small : ∀ k < 5, ∀ a < 2 ^ k + 1, ∀ b < 2 ^ k - a + 1, ∀ dir : Bool, ∀ i < 2 ^ k,
    stagesL dir (dists k) (ends (2 ^ k) a b) i = ordered dir (2 ^ k) (a + b) i := by
  decide +kernel

/-- A merge to blocks of 32 puts ones from both ends of a block in order. -/
theorem merge_check_32 : ∀ a < 33, ∀ b < 33 - a, ∀ dir : Bool, ∀ i < 32,
    stagesL dir (dists 5) (ends 32 a b) i = ordered dir 32 (a + b) i := by
  decide +kernel

end Cert.Proof.Bitonic
-- ==== Proof.Stage.lean ====
/-
  The kernel's compare-exchange stages on a block of columns, as vector operations, and what each of them does to
  every column: a stage is `Bitonic.stage`, the meeting of neighbouring blocks of 32 is `Bitonic.halve`.
-/
module

public import proofs.«01_k».proof.Proof.Network
public import Idealize.ShloMosaic.Lib.Pipeline.Value
public import Idealize.ShloMosaic.Lib.Pointwise

@[expose] public section

set_option maxRecDepth 16384

noncomputable section

namespace Cert.Proof.Stage

open Idealize.ShloMosaic Cert.Proof.Bitonic
open Idealize.ShloMosaic.ValueIdx hiding ix1 ix2 ix3 ix4

variable {F : FTy → Type} [FloatOps F]

/-- `n` rows of 1024 columns. -/
abbrev mat (n : ℕ) : Shape := ⟨2, ![n, 1024]⟩
/-- One column of `n` rows. -/
abbrev col (n : ℕ) : Shape := ⟨2, ![n, 1]⟩
/-- `n` rows in `m` groups of two halves of `d`. -/
abbrev cut (m d : ℕ) : Shape := ⟨4, ![m, 2, d, 1024]⟩
/-- One half of every group. -/
abbrev half (m d : ℕ) : Shape := ⟨4, ![m, 1, d, 1024]⟩
/-- The same without the axis of size one. -/
abbrev flat (m d : ℕ) : Shape := ⟨3, ![m, d, 1024]⟩

/-- The shapes of one exchange fit: `n` rows are `m` groups of two halves of `d`. -/
structure Fits (n m d : ℕ) : Prop where
  split : (mat n).ShapeCasts (cut m d)
  hi : (cut m d).Slices ![0, 1, 0, 0] (half m d)
  lo : (cut m d).Slices ![0, 0, 0, 0] (half m d)
  cat : Shape.Concatenates [half m d, half m d] (cut m d) 1
  join : (cut m d).ShapeCasts (mat n)
  same : (col n).ShapeCasts (col n)
  bc : (col n).Broadcasts (mat n)
  iota : (col n).Iotas .tc 32 [0]

/-- The halves of every group changed over. -/
def swapv {n m d : ℕ} (h : Fits n m d) (x : FVec F (mat n) .bf16) : FVec F (mat n) .bf16 :=
  shapeCast (mat n) (concatenate (cut m d) 1
    [⟨half m d, extractStridedSlice (half m d) ![0, 1, 0, 0] (shapeCast (cut m d) x h.split) h.hi⟩,
     ⟨half m d, extractStridedSlice (half m d) ![0, 0, 0, 0] (shapeCast (cut m d) x h.split) h.lo⟩] h.cat) h.join

/-- The rows at which a stage at distance `d` in blocks of `s` keeps the greater. -/
def maskv {n m d : ℕ} (h : Fits n m d) (s : BitVec 32) (d' : BitVec 32) : IVec (col n) 1 :=
  xori (xori (cmpi .eq (andi (iota .tc (col n) 32 [0] h.iota) (broadcast (col n) d')) (broadcast (col n) 0#32))
    (cmpi .eq (andi (iota .tc (col n) 32 [0] h.iota) (broadcast (col n) s)) (broadcast (col n) 0#32)))
    (constantI (col n) 1 1#1)

/-- One stage: every row meets the row across the halves of its group. -/
def cxv {n m d : ℕ} (h : Fits n m d) (d' s : BitVec 32) (x : FVec F (mat n) .bf16) : FVec F (mat n) .bf16 :=
  select (broadcastTo (mat n) (shapeCast (col n) (maskv h s d') h.same) h.bc) (maximumf x (swapv h x))
    (minimumf x (swapv h x))

/-- The shapes of one meeting of neighbouring blocks fit. -/
structure Halves (n n' m : ℕ) : Prop where
  split : (mat n).ShapeCasts (cut m 32)
  lo : (cut m 32).Slices ![0, 0, 0, 0] (half m 32)
  hi : (cut m 32).Slices ![0, 1, 0, 0] (half m 32)
  drop : (half m 32).ShapeCasts (flat m 32)
  join : (flat m 32).ShapeCasts (mat n')

/-- Neighbouring blocks of 32 rows met row by row, the greater kept. -/
def halvev {n n' m : ℕ} (h : Halves n n' m) (x : FVec F (mat n) .bf16) : FVec F (mat n') .bf16 :=
  shapeCast (mat n') (maximumf
    (shapeCast (flat m 32) (extractStridedSlice (half m 32) ![0, 0, 0, 0] (shapeCast (cut m 32) x h.split) h.lo) h.drop)
    (shapeCast (flat m 32) (extractStridedSlice (half m 32) ![0, 1, 0, 0] (shapeCast (cut m 32) x h.split) h.hi) h.drop)) h.join

theorem fits {n m d : ℕ} (e : n = m * (2 * d)) : Fits n m d where
  split := by subst e; simp [Shape.ShapeCasts, Shape.numel, Fin.prod_univ_succ]; ring
  hi := ⟨rfl, fun a => by match a with | ⟨0, _⟩ => simp | ⟨1, _⟩ => simp | ⟨2, _⟩ => simp | ⟨3, _⟩ => simp⟩
  lo := ⟨rfl, fun a => by match a with | ⟨0, _⟩ => simp | ⟨1, _⟩ => simp | ⟨2, _⟩ => simp | ⟨3, _⟩ => simp⟩
  cat := ⟨by simp, fun s hs => by
    obtain rfl : s = half m d := by simpa using hs
    exact ⟨rfl, fun b hb => by
      match b with
      | ⟨0, _⟩ => rfl
      | ⟨1, _⟩ => exact absurd rfl hb
      | ⟨2, _⟩ => rfl
      | ⟨3, _⟩ => rfl⟩, by simp⟩
  join := by subst e; simp [Shape.ShapeCasts, Shape.numel, Fin.prod_univ_succ]; ring
  same := rfl
  bc := ⟨le_refl _, fun a => by
    match a with
    | ⟨0, _⟩ => exact Or.inr fun _ => rfl
    | ⟨1, _⟩ => exact Or.inl rfl⟩
  iota := ⟨by simp, fun _ => ⟨by simp, le_refl _⟩, fun h => absurd rfl h⟩

theorem halves {n n' m : ℕ} (e : n = m * 64) (e' : n' = m * 32) : Halves n n' m where
  split := by subst e; simp [Shape.ShapeCasts, Shape.numel, Fin.prod_univ_succ]; ring
  lo := ⟨rfl, fun a => by match a with | ⟨0, _⟩ => simp | ⟨1, _⟩ => simp | ⟨2, _⟩ => simp | ⟨3, _⟩ => simp⟩
  hi := ⟨rfl, fun a => by match a with | ⟨0, _⟩ => simp | ⟨1, _⟩ => simp | ⟨2, _⟩ => simp | ⟨3, _⟩ => simp⟩
  drop := by simp [Shape.ShapeCasts, Shape.numel, Fin.prod_univ_succ]
  join := by subst e'; simp [Shape.ShapeCasts, Shape.numel, Fin.prod_univ_succ]; ring

/-! ## Rows -/

theorem xor_across {k e r : ℕ} (a : ℕ) (hr : r < 2 ^ k) (he : e < 2) :
    ((a * 2 + e) * 2 ^ k + r) ^^^ 2 ^ k = (a * 2 + (1 - e)) * 2 ^ k + r := by
  apply Nat.eq_of_testBit_eq
  intro j
  rw [Nat.testBit_xor, mul_comm _ (2 ^ k), mul_comm _ (2 ^ k), Nat.testBit_two_pow_mul_add _ hr,
    Nat.testBit_two_pow_mul_add _ hr, Nat.testBit_two_pow]
  by_cases hj : j < k
  · have : ¬ k = j := by omega
    simp [hj, this]
  · rw [if_neg hj, if_neg hj]
    obtain ⟨i, rfl⟩ : ∃ i, j = k + i := ⟨j - k, by omega⟩
    rw [Nat.add_sub_cancel_left, mul_comm a 2]
    rcases Nat.eq_zero_or_pos i with rfl | hi
    · have : e = 0 ∨ e = 1 := by omega
      rcases this with rfl | rfl <;> simp [Nat.testBit_zero, Nat.add_mod]
    · obtain ⟨i', rfl⟩ : ∃ i', i = i' + 1 := ⟨i - 1, by omega⟩
      have h1 : ¬ k = k + (i' + 1) := by omega
      rw [Nat.testBit_succ, Nat.testBit_succ]
      rw [show (2 * a + e) / 2 = a by omega, show (2 * a + (1 - e)) / 2 = a by omega]
      simp

theorem swapv_apply {n m k : ℕ} (h : Fits n m (2 ^ k)) (e : n = m * (2 * 2 ^ k)) (x : FVec F (mat n) .bf16)
    (p p' : Fin n) (hp : p'.val = p.val ^^^ 2 ^ k) (q : Fin 1024) : swapv h x (ix2 p q) = x (ix2 p' q) := by
  have hk : 0 < 2 ^ k := Nat.two_pow_pos k
  have ha : p.val / 2 ^ k / 2 < m := by
    rw [Nat.div_div_eq_div_mul]
    exact Nat.div_lt_of_lt_mul (by rw [mul_comm (2 ^ k) 2, mul_comm _ m, ← e]; exact p.isLt)
  have hr : p.val % 2 ^ k < 2 ^ k := Nat.mod_lt _ hk
  have hsplit : p.val = (p.val / 2 ^ k / 2 * 2 + p.val / 2 ^ k % 2) * 2 ^ k + p.val % 2 ^ k := by
    rw [Nat.div_add_mod' (p.val / 2 ^ k) 2, Nat.div_add_mod']
  have hp2 : p'.val = (p.val / 2 ^ k / 2 * 2 + (1 - p.val / 2 ^ k % 2)) * 2 ^ k + p.val % 2 ^ k := by
    rw [hp, ← xor_across (p.val / 2 ^ k / 2) hr (Nat.mod_lt _ (by norm_num)), ← hsplit]
  rcases Nat.mod_two_eq_zero_or_one (p.val / 2 ^ k) with h0 | h1
  · rw [h0] at hsplit hp2
    unfold swapv
    rw [shapeCast_apply (s := cut m (2 ^ k)) (t := mat n) _ h.join (ix2 p q) (ix4 ⟨p.val / 2 ^ k / 2, ha⟩ (0 : Fin 2) ⟨p.val % 2 ^ k, hr⟩ q)
      (by rw [Shape.rowMajor_val_four, Shape.rowMajor_val_two]; simp; exact hsplit.symm),
      concatenate_pair_apply_left (t := cut m (2 ^ k)) (s₁ := half m (2 ^ k)) (s₂ := half m (2 ^ k)) 1 _ _ h.cat _ rfl
        (ix4 ⟨p.val / 2 ^ k / 2, ha⟩ (0 : Fin 1) ⟨p.val % 2 ^ k, hr⟩ q)
        (fun b => by match b with | ⟨0, _⟩ => rfl | ⟨1, _⟩ => rfl | ⟨2, _⟩ => rfl | ⟨3, _⟩ => rfl),
      extractStridedSlice_apply (s := cut m (2 ^ k)) (t := half m (2 ^ k)) _ _ h.hi _ (ix4 ⟨p.val / 2 ^ k / 2, ha⟩ (1 : Fin 2) ⟨p.val % 2 ^ k, hr⟩ q)
        (fun b => by match b with | ⟨0, _⟩ => simp | ⟨1, _⟩ => simp | ⟨2, _⟩ => simp | ⟨3, _⟩ => simp),
      shapeCast_apply (s := mat n) (t := cut m (2 ^ k)) _ h.split _ (ix2 p' q)
        (by rw [Shape.rowMajor_val_four, Shape.rowMajor_val_two]; simp; rw [hp2])]
  · rw [h1] at hsplit hp2
    unfold swapv
    rw [shapeCast_apply (s := cut m (2 ^ k)) (t := mat n) _ h.join (ix2 p q) (ix4 ⟨p.val / 2 ^ k / 2, ha⟩ (1 : Fin 2) ⟨p.val % 2 ^ k, hr⟩ q)
      (by rw [Shape.rowMajor_val_four, Shape.rowMajor_val_two]; simp; rw [← hsplit]),
      concatenate_pair_apply_right (t := cut m (2 ^ k)) (s₁ := half m (2 ^ k)) (s₂ := half m (2 ^ k)) 1 _ _ h.cat _ rfl rfl
        (ix4 ⟨p.val / 2 ^ k / 2, ha⟩ (0 : Fin 1) ⟨p.val % 2 ^ k, hr⟩ q)
        (fun b hb => by match b with | ⟨0, _⟩ => rfl | ⟨1, _⟩ => exact absurd rfl hb | ⟨2, _⟩ => rfl | ⟨3, _⟩ => rfl) rfl,
      extractStridedSlice_apply (s := cut m (2 ^ k)) (t := half m (2 ^ k)) _ _ h.lo _ (ix4 ⟨p.val / 2 ^ k / 2, ha⟩ (0 : Fin 2) ⟨p.val % 2 ^ k, hr⟩ q)
        (fun b => by match b with | ⟨0, _⟩ => simp | ⟨1, _⟩ => simp | ⟨2, _⟩ => simp | ⟨3, _⟩ => simp),
      shapeCast_apply (s := mat n) (t := cut m (2 ^ k)) _ h.split _ (ix2 p' q)
        (by rw [Shape.rowMajor_val_four, Shape.rowMajor_val_two]; simp; rw [hp2]; simp)]

theorem bit_eq (p d : ℕ) (hp : p < 2 ^ 32) (hd : d < 2 ^ 32) :
    IntOp.cmpi .eq (IntOp.andi (BitVec.ofNat 32 p) (BitVec.ofNat 32 d)) 0#32 = BitVec.ofBool (decide (p &&& d = 0)) := by
  have : IntOp.andi (BitVec.ofNat 32 p) (BitVec.ofNat 32 d) = BitVec.ofNat 32 (p &&& d) := by
    unfold IntOp.andi
    apply BitVec.eq_of_toNat_eq
    rw [BitVec.toNat_and, BitVec.toNat_ofNat, BitVec.toNat_ofNat, BitVec.toNat_ofNat, Nat.mod_eq_of_lt hp,
      Nat.mod_eq_of_lt hd, Nat.mod_eq_of_lt (lt_of_le_of_lt Nat.and_le_left hp)]
  rw [this]
  have hz : (BitVec.ofNat 32 (p &&& d) = 0#32) ↔ p &&& d = 0 := by
    rw [← BitVec.toNat_inj, BitVec.toNat_ofNat, Nat.mod_eq_of_lt (lt_of_le_of_lt Nat.and_le_left hp)]; rfl
  by_cases h : p &&& d = 0
  · simp [IntOp.cmpi, h]
  · have := mt hz.mp h
    have hb : (BitVec.ofNat 32 (p &&& d) == 0#32) = false := by simpa using this
    show BitVec.ofBool (BitVec.ofNat 32 (p &&& d) == 0#32) = _
    rw [hb]
    simp [h]

theorem maskv_apply {n m d : ℕ} (h : Fits n m d) (d' s : ℕ) (hn : n < 2 ^ 32) (hd : d' < 2 ^ 32) (hs : s < 2 ^ 32)
    (p : Fin n) (z : Fin 1) :
    maskv h (BitVec.ofNat 32 s) (BitVec.ofNat 32 d') (ix2 p z) = BitVec.ofBool (up d' s p.val) := by
  have hp : p.val < 2 ^ 32 := p.isLt.trans hn
  have hi : iota .tc (col n) 32 [0] h.iota (ix2 p z) = BitVec.ofNat 32 p.val := by
    simp [iota]
  show IntOp.xori (IntOp.xori (IntOp.cmpi .eq (IntOp.andi (iota .tc (col n) 32 [0] h.iota (ix2 p z)) (BitVec.ofNat 32 d')) 0#32)
    (IntOp.cmpi .eq (IntOp.andi (iota .tc (col n) 32 [0] h.iota (ix2 p z)) (BitVec.ofNat 32 s)) 0#32)) 1#1 = _
  rw [hi, bit_eq _ _ hp hd, bit_eq _ _ hp hs, up]
  cases decide (p.val &&& d' = 0) <;> cases decide (p.val &&& s = 0) <;> rfl

/-- Every column of `x` is the first `n` places of the column of `f`. -/
def Holds {n : ℕ} (x : FVec Ideal (mat n) .bf16) (f : Fin 1024 → ℕ → EReal) : Prop :=
  ∀ (p : Fin n) (q : Fin 1024), x (ix2 p q) = f q p.val

/-- A stage of the kernel is the stage of the network on every column. -/
theorem holds_cxv {n m k s : ℕ} (h : Fits n m (2 ^ k)) (e : n = m * (2 * 2 ^ k)) (hn : n < 2 ^ 32) (hs : s < 2 ^ 32)
    {x : FVec Ideal (mat n) .bf16} {f : Fin 1024 → ℕ → EReal} (hx : Holds x f) :
    Holds (cxv h (BitVec.ofNat 32 (2 ^ k)) (BitVec.ofNat 32 s) x) (fun q => stage (2 ^ k) s (f q)) := by
  intro p q
  have hk : 0 < 2 ^ k := Nat.two_pow_pos k
  have hlt : p.val ^^^ 2 ^ k < n := by
    have hr : p.val % 2 ^ k < 2 ^ k := Nat.mod_lt _ hk
    have hsplit : p.val = (p.val / 2 ^ k / 2 * 2 + p.val / 2 ^ k % 2) * 2 ^ k + p.val % 2 ^ k := by
      rw [Nat.div_add_mod' (p.val / 2 ^ k) 2, Nat.div_add_mod']
    have ha : p.val / 2 ^ k / 2 < m := by
      rw [Nat.div_div_eq_div_mul]
      exact Nat.div_lt_of_lt_mul (by rw [mul_comm (2 ^ k) 2, mul_comm _ m, ← e]; exact p.isLt)
    have h2 := xor_across (p.val / 2 ^ k / 2) hr (Nat.mod_lt (p.val / 2 ^ k) (by norm_num : 0 < 2))
    rw [← hsplit] at h2
    rw [h2]
    refine lt_of_lt_of_eq ?_ e.symm
    calc (p.val / 2 ^ k / 2 * 2 + (1 - p.val / 2 ^ k % 2)) * 2 ^ k + p.val % 2 ^ k
        < (p.val / 2 ^ k / 2 * 2 + (1 - p.val / 2 ^ k % 2)) * 2 ^ k + 2 ^ k := by omega
      _ = (p.val / 2 ^ k / 2 * 2 + (1 - p.val / 2 ^ k % 2) + 1) * 2 ^ k := by ring
      _ ≤ (m * 2) * 2 ^ k := Nat.mul_le_mul_right _ (by omega)
      _ = m * (2 * 2 ^ k) := by ring
  have hd : 2 ^ k < 2 ^ 32 := by
    have : 0 < m := by
      rcases Nat.eq_zero_or_pos m with rfl | h'
      · have := p.isLt; omega
      · exact h'
    have : 2 * 2 ^ k ≤ n := by rw [e]; exact Nat.le_mul_of_pos_left _ this
    omega
  have hm : broadcastTo (mat n) (shapeCast (col n) (maskv h (BitVec.ofNat 32 s) (BitVec.ofNat 32 (2 ^ k))) h.same) h.bc (ix2 p q)
      = BitVec.ofBool (up (2 ^ k) s p.val) := by
    rw [broadcastTo_apply (s := col n) (t := mat n) _ h.bc _ (ix2 p (0 : Fin 1)) (fun a => by
        match a with
        | ⟨0, _⟩ =>
          by_cases h1 : n = 1
          · have := p.isLt; simp [h1]; omega
          · simp [h1]
        | ⟨1, _⟩ => simp),
      shapeCast_apply (s := col n) (t := col n) _ h.same _ (ix2 p (0 : Fin 1)) rfl, maskv_apply h _ _ hn hd hs]
  have hsw := swapv_apply h e x p ⟨_, hlt⟩ rfl q
  show Scalar.select _ (max (x (ix2 p q)) (swapv h x (ix2 p q))) (min (x (ix2 p q)) (swapv h x (ix2 p q))) = _
  rw [hm, hsw, hx, hx]
  show _ = stage (2 ^ k) s (f q) p.val
  unfold stage
  cases up (2 ^ k) s p.val <;> rfl

/-- The meeting of neighbouring blocks is that of the network on every column. -/
theorem holds_halvev {n n' m : ℕ} (h : Halves n n' m) (e : n = m * 64) (e' : n' = m * 32)
    {x : FVec Ideal (mat n) .bf16} {f : Fin 1024 → ℕ → EReal} (hx : Holds x f) :
    Holds (halvev h x) (fun q => halve (f q)) := by
  intro p q
  have hp : p.val < m * 32 := lt_of_lt_of_eq p.isLt e'
  have ha : p.val / 32 < m := by omega
  have hr : p.val % 32 < 32 := Nat.mod_lt _ (by norm_num)
  have h0 : 64 * (p.val / 32) + p.val % 32 < n := by omega
  have h1 : 64 * (p.val / 32) + 32 + p.val % 32 < n := by omega
  unfold halvev
  rw [shapeCast_apply (s := flat m 32) (t := mat n') _ h.join _ (ix3 ⟨p.val / 32, ha⟩ ⟨p.val % 32, hr⟩ q)
    (by rw [Shape.rowMajor_val_three, Shape.rowMajor_val_two]; simp; omega), maximumf_apply,
    shapeCast_apply (s := half m 32) (t := flat m 32) _ h.drop _ (ix4 ⟨p.val / 32, ha⟩ (0 : Fin 1) ⟨p.val % 32, hr⟩ q)
      (by rw [Shape.rowMajor_val_three, Shape.rowMajor_val_four]; simp),
    shapeCast_apply (s := half m 32) (t := flat m 32) _ h.drop _ (ix4 ⟨p.val / 32, ha⟩ (0 : Fin 1) ⟨p.val % 32, hr⟩ q)
      (by rw [Shape.rowMajor_val_three, Shape.rowMajor_val_four]; simp),
    extractStridedSlice_apply (s := cut m 32) (t := half m 32) _ _ h.lo _ (ix4 ⟨p.val / 32, ha⟩ (0 : Fin 2) ⟨p.val % 32, hr⟩ q)
      (fun b => by match b with | ⟨0, _⟩ => simp | ⟨1, _⟩ => simp | ⟨2, _⟩ => simp | ⟨3, _⟩ => simp),
    extractStridedSlice_apply (s := cut m 32) (t := half m 32) _ _ h.hi _ (ix4 ⟨p.val / 32, ha⟩ (1 : Fin 2) ⟨p.val % 32, hr⟩ q)
      (fun b => by match b with | ⟨0, _⟩ => simp | ⟨1, _⟩ => simp | ⟨2, _⟩ => simp | ⟨3, _⟩ => simp),
    shapeCast_apply (s := mat n) (t := cut m 32) _ h.split _ (ix2 ⟨_, h0⟩ q)
      (by rw [Shape.rowMajor_val_four, Shape.rowMajor_val_two]; simp; omega),
    shapeCast_apply (s := mat n) (t := cut m 32) _ h.split _ (ix2 ⟨_, h1⟩ q)
      (by rw [Shape.rowMajor_val_four, Shape.rowMajor_val_two]; simp; omega), hx, hx]
  rfl

end Cert.Proof.Stage

end
-- ==== Proof.Columns.lean ====
/-
  The two stored blocks of per-column greatest entries: the kernel's chain of vector operations is the selection network
  applied to every column.
-/
module

public import proofs.«01_k».proof.Proof.Gen.KernelIdeal.Frame
public import proofs.«01_k».proof.Proof.Stage

@[expose] public section

set_option maxRecDepth 16384

noncomputable section

namespace Cert.Proof.Columns

open Idealize.ShloMosaic Cert.Proof.Bitonic Cert.Proof.Stage
open Idealize.ShloMosaic.ValueIdx hiding ix1 ix2 ix3 ix4
open Cert.KernelIdeal Cert.KernelIdeal.Gen

section Network
variable {F : FTy → Type} [FloatOps F]

/-- One stage on `n` rows: distance `d`, blocks of `s`. -/
def cx (n m d s : ℕ) (e : n = m * (2 * d)) (x : FVec F (mat n) .bf16) : FVec F (mat n) .bf16 :=
  cxv (fits e) (BitVec.ofNat 32 d) (BitVec.ofNat 32 s) x

/-- Blocks of 32 sorted. -/
def sortv (x : FVec F (mat 1024) .bf16) : FVec F (mat 1024) .bf16 :=
  cx 1024 512 1 32 rfl <| cx 1024 256 2 32 rfl <| cx 1024 128 4 32 rfl <| cx 1024 64 8 32 rfl <| cx 1024 32 16 32 rfl <|
  cx 1024 512 1 16 rfl <| cx 1024 256 2 16 rfl <| cx 1024 128 4 16 rfl <| cx 1024 64 8 16 rfl <|
  cx 1024 512 1 8 rfl <| cx 1024 256 2 8 rfl <| cx 1024 128 4 8 rfl <|
  cx 1024 512 1 4 rfl <| cx 1024 256 2 4 rfl <| cx 1024 512 1 2 rfl x

/-- Neighbouring blocks of 32 met and the rows left sorted: `64 a` rows become `32 a = 2 a * 16 = …`. -/
def foldv (n n' a b c d e g : ℕ) (h : n = a * 64) (h' : n' = a * 32) (hb : n' = b * 32) (hc : n' = c * 16)
    (hd : n' = d * 8) (he : n' = e * 4) (hg : n' = g * 2) (x : FVec F (mat n) .bf16) : FVec F (mat n') .bf16 :=
  cx n' g 1 32 hg <| cx n' e 2 32 he <| cx n' d 4 32 hd <| cx n' c 8 32 hc <| cx n' b 16 32 hb <| halvev (halves h h') x

/-- The whole network. -/
def topv (x : FVec F (mat 1024) .bf16) : FVec F (mat 32) .bf16 :=
  foldv 64 32 1 1 2 4 8 16 rfl rfl rfl rfl rfl rfl rfl <| foldv 128 64 2 2 4 8 16 32 rfl rfl rfl rfl rfl rfl rfl <|
  foldv 256 128 4 4 8 16 32 64 rfl rfl rfl rfl rfl rfl rfl <| foldv 512 256 8 8 16 32 64 128 rfl rfl rfl rfl rfl rfl rfl <|
  foldv 1024 512 16 16 32 64 128 256 rfl rfl rfl rfl rfl rfl rfl <| sortv x

variable (x0 : Vec F S1x1024x1024 .f32) (x1 : Vec F S1x1024x1024 .f32) (x2 : Vec F S1x1024x1 .f32)
  (x3 : Vec F S1024x1024 .f32) (x4 : Vec F S1024x1 .f32) (x5 : Vec F S32x1024 .f32) (x6 : Vec F S32x1 .f32)
  (x7 : Vec F S2x64 .f32) (x8 : Vec F S2x1 .f32)

/-- The block of foreground entries stored is the network on the columns of the foreground product. -/
theorem out9_eq : out0_9 x0 x1 x2 x3 x4 x5 x6 x7 x8 = View.canon [⟨r0_2, shapeCast S1x32x1024
    (extf .f32 (topv (k0_pay208 x0 x1 x2 x3 x4 x5 x6 x7 x8)) bitsLt_bf16_f32) shapeCasts_S32x1024_S1x32x1024⟩] := rfl

/-- The block of background entries stored is the network on the columns of the background product. -/
theorem out10_eq : out0_10 x0 x1 x2 x3 x4 x5 x6 x7 x8 = View.canon [⟨r0_2, shapeCast S1x32x1024
    (extf .f32 (topv (k0_pay227 x0 x1 x2 x3 x4 x5 x6 x7 x8)) bitsLt_bf16_f32) shapeCasts_S32x1024_S1x32x1024⟩] := rfl

end Network

theorem holds_cx {n m k s : ℕ} (e : n = m * (2 * 2 ^ k)) (hn : n < 2 ^ 32) (hs : s < 2 ^ 32)
    {x : FVec Ideal (mat n) .bf16} {f : Fin 1024 → ℕ → EReal} (hx : Holds x f) :
    Holds (cx n m (2 ^ k) s e x) (fun q => stage (2 ^ k) s (f q)) := holds_cxv (fits e) e hn hs hx

theorem holds_sortv {x : FVec Ideal (mat 1024) .bf16} {f : Fin 1024 → ℕ → EReal} (hx : Holds x f) :
    Holds (sortv x) (fun q => sort32 (f q)) := by
  have h1 := holds_cx (n := 1024) (m := 512) (k := 0) (s := 2) rfl (by norm_num) (by norm_num) hx
  have h2 := holds_cx (n := 1024) (m := 256) (k := 1) (s := 4) rfl (by norm_num) (by norm_num) h1
  have h3 := holds_cx (n := 1024) (m := 512) (k := 0) (s := 4) rfl (by norm_num) (by norm_num) h2
  have h4 := holds_cx (n := 1024) (m := 128) (k := 2) (s := 8) rfl (by norm_num) (by norm_num) h3
  have h5 := holds_cx (n := 1024) (m := 256) (k := 1) (s := 8) rfl (by norm_num) (by norm_num) h4
  have h6 := holds_cx (n := 1024) (m := 512) (k := 0) (s := 8) rfl (by norm_num) (by norm_num) h5
  have h7 := holds_cx (n := 1024) (m := 64) (k := 3) (s := 16) rfl (by norm_num) (by norm_num) h6
  have h8 := holds_cx (n := 1024) (m := 128) (k := 2) (s := 16) rfl (by norm_num) (by norm_num) h7
  have h9 := holds_cx (n := 1024) (m := 256) (k := 1) (s := 16) rfl (by norm_num) (by norm_num) h8
  have h10 := holds_cx (n := 1024) (m := 512) (k := 0) (s := 16) rfl (by norm_num) (by norm_num) h9
  have h11 := holds_cx (n := 1024) (m := 32) (k := 4) (s := 32) rfl (by norm_num) (by norm_num) h10
  have h12 := holds_cx (n := 1024) (m := 64) (k := 3) (s := 32) rfl (by norm_num) (by norm_num) h11
  have h13 := holds_cx (n := 1024) (m := 128) (k := 2) (s := 32) rfl (by norm_num) (by norm_num) h12
  have h14 := holds_cx (n := 1024) (m := 256) (k := 1) (s := 32) rfl (by norm_num) (by norm_num) h13
  exact holds_cx (n := 1024) (m := 512) (k := 0) (s := 32) rfl (by norm_num) (by norm_num) h14

theorem holds_foldv {n n' a b c d e g : ℕ} (h : n = a * 64) (h' : n' = a * 32) (hb : n' = b * 32) (hc : n' = c * 16)
    (hd : n' = d * 8) (he : n' = e * 4) (hg : n' = g * 2) (hn : n' < 2 ^ 32)
    {x : FVec Ideal (mat n) .bf16} {f : Fin 1024 → ℕ → EReal} (hx : Holds x f) :
    Holds (foldv n n' a b c d e g h h' hb hc hd he hg x) (fun q => fold (f q)) := by
  have h0 := holds_halvev (halves h h') h h' hx
  have h1 := holds_cx (n := n') (m := b) (k := 4) (s := 32) hb hn (by norm_num) h0
  have h2 := holds_cx (n := n') (m := c) (k := 3) (s := 32) hc hn (by norm_num) h1
  have h3 := holds_cx (n := n') (m := d) (k := 2) (s := 32) hd hn (by norm_num) h2
  have h4 := holds_cx (n := n') (m := e) (k := 1) (s := 32) he hn (by norm_num) h3
  exact holds_cx (n := n') (m := g) (k := 0) (s := 32) hg hn (by norm_num) h4

/-- Row `i` of the network's result is, column by column, entry `i` of the network on that column. -/
theorem holds_topv {x : FVec Ideal (mat 1024) .bf16} {f : Fin 1024 → ℕ → EReal} (hx : Holds x f) :
    Holds (topv x) (fun q => top (f q)) := by
  have h0 := holds_sortv hx
  have h1 := holds_foldv (n := 1024) (n' := 512) (a := 16) (b := 16) (c := 32) (d := 64) (e := 128) (g := 256)
    rfl rfl rfl rfl rfl rfl rfl (by norm_num) h0
  have h2 := holds_foldv (n := 512) (n' := 256) (a := 8) (b := 8) (c := 16) (d := 32) (e := 64) (g := 128)
    rfl rfl rfl rfl rfl rfl rfl (by norm_num) h1
  have h3 := holds_foldv (n := 256) (n' := 128) (a := 4) (b := 4) (c := 8) (d := 16) (e := 32) (g := 64)
    rfl rfl rfl rfl rfl rfl rfl (by norm_num) h2
  have h4 := holds_foldv (n := 128) (n' := 64) (a := 2) (b := 2) (c := 4) (d := 8) (e := 16) (g := 32)
    rfl rfl rfl rfl rfl rfl rfl (by norm_num) h3
  exact holds_foldv (n := 64) (n' := 32) (a := 1) (b := 1) (c := 2) (d := 4) (e := 8) (g := 16)
    rfl rfl rfl rfl rfl rfl rfl (by norm_num) h4

end Cert.Proof.Columns
-- ==== Proof.Bitonic.lean ====
/-
  The bitonic network of the kernel on one column: entry `i` of the result, for `i` below 32, is at least `t`
  exactly when more than `i` of the column's 1024 entries are. By thresholds the column becomes bits; a sorted
  block of bits is known by its count of ones; a merge adds the counts.
-/
module

public import proofs.«01_k».proof.Proof.Network

@[expose] public section

namespace Cert.Proof.Bitonic

/-! ## Places in a block -/

theorem add_and {k q i d : ℕ} (hi : i < 2 ^ k) (hd : d < 2 ^ k) : (2 ^ k * q + i) &&& d = i &&& d := by
  apply Nat.eq_of_testBit_eq
  intro j
  rw [Nat.testBit_and, Nat.testBit_and, Nat.testBit_two_pow_mul_add q hi]
  by_cases hj : j < k
  · rw [if_pos hj]
  · rw [if_neg hj, Nat.testBit_lt_two_pow (lt_of_lt_of_le hd (Nat.pow_le_pow_right (by norm_num) (not_lt.mp hj)))]
    simp

theorem add_xor {k q i d : ℕ} (hi : i < 2 ^ k) (hd : d < 2 ^ k) : (2 ^ k * q + i) ^^^ d = 2 ^ k * q + (i ^^^ d) := by
  apply Nat.eq_of_testBit_eq
  intro j
  rw [Nat.testBit_xor, Nat.testBit_two_pow_mul_add q hi, Nat.testBit_two_pow_mul_add q (Nat.xor_lt_two_pow hi hd)]
  by_cases hj : j < k
  · rw [if_pos hj, if_pos hj, Nat.testBit_xor]
  · rw [if_neg hj, if_neg hj, Nat.testBit_lt_two_pow (lt_of_lt_of_le hd (Nat.pow_le_pow_right (by norm_num) (not_lt.mp hj)))]
    simp

theorem add_and_block {k q i : ℕ} (hi : i < 2 ^ k) : (2 ^ k * q + i) &&& 2 ^ k = (2 ^ k * q) &&& 2 ^ k := by
  have h0 := Nat.testBit_two_pow_mul_add q (Nat.two_pow_pos k)
  simp only [Nat.add_zero] at h0
  apply Nat.eq_of_testBit_eq
  intro j
  rw [Nat.testBit_and, Nat.testBit_and, Nat.testBit_two_pow]
  by_cases hj : k = j
  · subst hj
    rw [Nat.testBit_two_pow_mul_add q hi, ← Nat.add_zero (2 ^ k * q), Nat.testBit_two_pow_mul_add q (Nat.two_pow_pos k)]
    simp
  · simp [hj]

/-- The direction of block `q` of `2 ^ k`: descending for even `q`. -/
theorem block_dir (k q : ℕ) : decide ((2 ^ k * q) &&& 2 ^ k = 0) = decide (q % 2 = 0) := by
  have : (2 ^ k * q) &&& 2 ^ k = 2 ^ k * (q &&& 1) := by
    apply Nat.eq_of_testBit_eq
    intro j
    have hone : (1 : ℕ).testBit (j - k) = decide (0 = j - k) := Nat.testBit_two_pow (n := 0) (m := j - k)
    rw [Nat.testBit_and, Nat.testBit_two_pow_mul, Nat.testBit_two_pow_mul, Nat.testBit_two_pow, Nat.testBit_and, hone]
    by_cases hj : k = j
    · subst hj; simp
    · by_cases hk : k ≤ j
      · have h1 : ¬ 0 = j - k := by omega
        simp [hj, h1]
      · simp [hj, hk]
  rw [this, Nat.and_one_is_mod]
  simp

/-! ## A block by itself -/

theorem stagesL_congr {k : ℕ} (dir : Bool) (ds : List ℕ) (hds : ∀ d ∈ ds, d < 2 ^ k) (f g : ℕ → Bool)
    (h : ∀ i < 2 ^ k, f i = g i) : ∀ i < 2 ^ k, stagesL dir ds f i = stagesL dir ds g i := by
  induction ds generalizing f g with
  | nil => exact h
  | cons d ds ih =>
    refine ih (fun e he => hds e (List.mem_cons_of_mem _ he)) _ _ fun i hi => ?_
    have hd := hds d List.mem_cons_self
    simp only [stageL, h i hi, h _ (Nat.xor_lt_two_pow hi hd)]

/-- The stages of a merge act on every block by itself. -/
theorem stages_block {k : ℕ} (q : ℕ) (ds : List ℕ) (hds : ∀ d ∈ ds, d < 2 ^ k) (f : ℕ → Bool) :
    ∀ i < 2 ^ k, stages (2 ^ k) ds f (2 ^ k * q + i) = stagesL (decide (q % 2 = 0)) ds (fun j => f (2 ^ k * q + j)) i := by
  induction ds generalizing f with
  | nil => intro i _; rfl
  | cons d ds ih =>
    intro i hi
    have hd := hds d List.mem_cons_self
    have hds' : ∀ e ∈ ds, e < 2 ^ k := fun e he => hds e (List.mem_cons_of_mem _ he)
    rw [stages, ih hds' _ i hi, stagesL]
    refine stagesL_congr _ ds hds' _ _ (fun j hj => ?_) i hi
    simp only [stage, stageL, up, add_and hj hd, add_and_block hj, block_dir, add_xor hj hd, Bool.max_eq_or, Bool.min_eq_and]

theorem dists_lt (k : ℕ) : ∀ d ∈ dists k, d < 2 ^ k := by
  intro d hd
  simp only [dists, List.mem_map, List.mem_reverse, List.mem_range] at hd
  obtain ⟨j, hj, rfl⟩ := hd
  exact Nat.pow_lt_pow_right (by norm_num) hj

/-- A merge puts ones from both ends of a block in order. -/
theorem merge_ends {k : ℕ} (hk : k < 6) (a b : ℕ) (dir : Bool) (ha : a ≤ 2 ^ k) (hb : b ≤ 2 ^ k) :
    ∀ i < 2 ^ k, stagesL dir (dists k) (ends (2 ^ k) a b) i = ordered dir (2 ^ k) (min (2 ^ k) (a + b)) i := by
  have key : ∀ a b, a + b ≤ 2 ^ k → ∀ i < 2 ^ k,
      stagesL dir (dists k) (ends (2 ^ k) a b) i = ordered dir (2 ^ k) (a + b) i := by
    intro a b hab i hi
    rcases Nat.lt_or_ge k 5 with h5 | h5
    · exact merge_check_small k h5 a (by omega) b (by omega) dir i hi
    · obtain rfl : k = 5 := by omega
      exact merge_check_32 a (by omega) b (by omega) dir i hi
  intro i hi
  rcases le_total (a + b) (2 ^ k) with h | h
  · rw [min_eq_right h]; exact key a b h i hi
  · rw [min_eq_left h]
    have e := key a (2 ^ k - a) (by omega) i hi
    rw [show a + (2 ^ k - a) = 2 ^ k by omega] at e
    rw [← e]
    refine stagesL_congr dir _ (dists_lt k) _ _ (fun j hj => ?_) i hi
    simp only [ends]
    by_cases h1 : j < a
    · simp [h1]
    · have h2 : 2 ^ k - b ≤ j := by omega
      have h3 : 2 ^ k - (2 ^ k - a) ≤ j := by omega
      simp [h2, h3]

/-! ## Counts -/

/-- The ones among `n` places from `lo`. -/
def cnt (f : ℕ → Bool) (lo n : ℕ) : ℕ := ∑ i ∈ Finset.range n, (f (lo + i)).toNat

theorem cnt_add (f : ℕ → Bool) (lo n m : ℕ) : cnt f lo (n + m) = cnt f lo n + cnt f (lo + n) m := by
  simp only [cnt, Finset.sum_range_add, Nat.add_assoc]

theorem cnt_le (f : ℕ → Bool) (lo n : ℕ) : cnt f lo n ≤ n := by
  refine (Finset.sum_le_card_nsmul _ _ 1 fun i _ => Bool.toNat_le _).trans ?_
  simp

/-- Every block of `2 ^ k` of `g` is in order and holds as many ones as the same place of `f`. -/
def Blocks (k : ℕ) (f g : ℕ → Bool) : Prop :=
  ∀ q, ∀ i < 2 ^ k, g (2 ^ k * q + i) = ordered (decide (q % 2 = 0)) (2 ^ k) (cnt f (2 ^ k * q) (2 ^ k)) i

/-- Single places are in order. -/
theorem blocks_zero (f : ℕ → Bool) : Blocks 0 f f := by
  intro q i hi
  obtain rfl : i = 0 := by simpa using hi
  cases h : f q <;> simp [ordered, cnt, h]

/-- A merge doubles the blocks that are in order. -/
theorem blocks_succ {k : ℕ} (hk : k < 5) {f g : ℕ → Bool} (h : Blocks k f g) :
    Blocks (k + 1) f (stages (2 ^ (k + 1)) (dists (k + 1)) g) := by
  intro q i hi
  rw [stages_block q _ (dists_lt _) g i hi]
  have hA : cnt f (2 ^ k * (2 * q)) (2 ^ k) ≤ 2 ^ k := cnt_le _ _ _
  have hB : cnt f (2 ^ k * (2 * q + 1)) (2 ^ k) ≤ 2 ^ k := cnt_le _ _ _
  have hsum : cnt f (2 ^ (k + 1) * q) (2 ^ (k + 1))
      = cnt f (2 ^ k * (2 * q)) (2 ^ k) + cnt f (2 ^ k * (2 * q + 1)) (2 ^ k) := by
    rw [pow_succ, mul_two, cnt_add, show (2 ^ k + 2 ^ k) * q = 2 ^ k * (2 * q) by ring,
      show 2 ^ k * (2 * q) + 2 ^ k = 2 ^ k * (2 * q + 1) by ring]
  have hp : 2 ^ (k + 1) = 2 ^ k + 2 ^ k := by ring
  have e := merge_ends (k := k + 1) (by omega) _ _ (decide (q % 2 = 0)) (hA.trans (by omega)) (hB.trans (by omega)) i hi
  rw [min_eq_right (by omega), ← hsum] at e
  rw [← e]
  refine stagesL_congr _ _ (dists_lt _) _ _ (fun j hj => ?_) i hi
  rcases Nat.lt_or_ge j (2 ^ k) with hj' | hj'
  · have := h (2 * q) j hj'
    rw [show 2 ^ k * (2 * q) + j = 2 ^ (k + 1) * q + j by ring] at this
    rw [this, ordered, if_pos (by simp), ends]
    have : ¬ 2 ^ (k + 1) - cnt f (2 ^ k * (2 * q + 1)) (2 ^ k) ≤ j := by omega
    simp [this]
  · have := h (2 * q + 1) (j - 2 ^ k) (by omega)
    rw [show 2 ^ k * (2 * q + 1) + (j - 2 ^ k) = 2 ^ (k + 1) * q + j by
      rw [show 2 ^ k * (2 * q + 1) = 2 ^ (k + 1) * q + 2 ^ k by ring]; omega] at this
    rw [this, ordered, if_neg (by simp), ends]
    have h1 : ¬ j < cnt f (2 ^ k * (2 * q)) (2 ^ k) := by omega
    simp only [h1, decide_false, Bool.false_or]
    exact decide_eq_decide.mpr (by omega)

/-- The first phase sorts every block of 32. -/
theorem blocks_sort32 (f : ℕ → Bool) : Blocks 5 f (sort32 f) :=
  blocks_succ (k := 4) (by norm_num) (blocks_succ (k := 3) (by norm_num) (blocks_succ (k := 2) (by norm_num)
    (blocks_succ (k := 1) (by norm_num) (blocks_succ (k := 0) (by norm_num) (blocks_zero f)))))

/-- Every block of 32 of `g` is in order and holds the ones of a stretch of `n` places of `f`, up to 32. -/
def Kept (n : ℕ) (f g : ℕ → Bool) : Prop :=
  ∀ q, ∀ i < 32, g (32 * q + i) = ordered (decide (q % 2 = 0)) 32 (min 32 (cnt f (n * q) n)) i

theorem kept_sort32 (f : ℕ → Bool) : Kept 32 f (sort32 f) := by
  intro q i hi
  have h := blocks_sort32 f q i hi
  have hc : cnt f (32 * q) 32 ≤ 32 := cnt_le _ _ _
  rw [min_eq_right hc]
  exact h

theorem kept_fold {n n' : ℕ} {f g : ℕ → Bool} (hn : n' = n + n) (h : Kept n f g) : Kept n' f (fold g) := by
  subst hn
  intro q i hi
  have e0 := stages_block (k := 5) q (dists 5) (dists_lt 5) (halve g) i hi
  refine e0.trans ?_
  have hsum : cnt f ((n + n) * q) (n + n) = cnt f (n * (2 * q)) n + cnt f (n * (2 * q + 1)) n := by
    rw [cnt_add, show (n + n) * q = n * (2 * q) by ring, show n * (2 * q) + n = n * (2 * q + 1) by ring]
  have e := merge_ends (k := 5) (by norm_num) (min 32 (cnt f (n * (2 * q)) n)) (min 32 (cnt f (n * (2 * q + 1)) n))
    (decide (q % 2 = 0)) (min_le_left _ _) (min_le_left _ _) i hi
  have hm : min 32 (cnt f ((n + n) * q) (n + n))
      = min (2 ^ 5) (min 32 (cnt f (n * (2 * q)) n) + min 32 (cnt f (n * (2 * q + 1)) n)) := by
    rw [hsum]; omega
  rw [hm]
  refine Eq.trans ?_ e
  refine stagesL_congr _ _ (dists_lt 5) _ _ (fun j hj => ?_) i hi
  have hj : j < 32 := hj
  have h1 := h (2 * q) j hj
  have h2 := h (2 * q + 1) j hj
  rw [ordered, if_pos (by simp)] at h1
  rw [ordered, if_neg (by simp)] at h2
  simp only [halve, Bool.max_eq_or]
  rw [show 64 * ((2 ^ 5 * q + j) / 32) + (2 ^ 5 * q + j) % 32 = 32 * (2 * q) + j by omega,
    show 64 * ((2 ^ 5 * q + j) / 32) + 32 + (2 ^ 5 * q + j) % 32 = 32 * (2 * q + 1) + j by omega, h1, h2]
  rfl

/-- The network on bits: place `i` of the first 32 is a one exactly when the column holds more than `i` ones. -/
theorem top_bits (f : ℕ → Bool) (i : ℕ) (hi : i < 32) : top f i = decide (i < cnt f 0 1024) := by
  have hK : Kept 1024 f (top f) := kept_fold (n := 512) rfl (kept_fold (n := 256) rfl (kept_fold (n := 128) rfl
    (kept_fold (n := 64) rfl (kept_fold (n := 32) rfl (kept_sort32 f)))))
  have h := hK 0 i hi
  simp only [mul_zero, zero_add] at h
  refine h.trans ?_
  rw [ordered, if_pos (by simp)]
  exact decide_eq_decide.mpr (by omega)

/-- Entry `i` of the network's result is at least `t` exactly when more than `i` of the 1024 entries are. -/
theorem le_top {α : Type*} [LinearOrder α] (f : ℕ → α) (t : α) (i : ℕ) (hi : i < 32) :
    t ≤ top f i ↔ i < ((Finset.univ : Finset (Fin 1024)).filter fun p => t ≤ f p.val).card := by
  have hg : Monotone fun x : α => decide (t ≤ x) := by
    intro x y hxy
    by_cases h : t ≤ x
    · simp [h, h.trans hxy]
    · simp [h]
  have h := congrFun (top_map hg f) i
  have hb := top_bits (fun p => decide (t ≤ f p)) i hi
  have hc : cnt (fun p => decide (t ≤ f p)) 0 1024
      = ((Finset.univ : Finset (Fin 1024)).filter fun p => t ≤ f p.val).card := by
    rw [Finset.card_filter, cnt, Finset.sum_range]
    refine Finset.sum_congr rfl fun p _ => ?_
    by_cases hp : t ≤ f p.val <;> simp [hp]
  rw [hb, hc] at h
  simpa using h

end Cert.Proof.Bitonic
-- ==== Proof.Bounds.lean ====
/-
  Unit vectors have entries between minus one and one whatever the features are, so correlations are finite, every
  score is above the most negative finite number, and subtracting the foreground leaves the background.
-/
module

public import proofs.«01_k».proof.Proof.Spec

@[expose] public section

noncomputable section

namespace Cert.Proof

open Idealize.ShloMosaic

/-- The word of 10⁻¹² is a positive number. -/
theorem eps_word : ∃ e : ℝ, 0 < e ∧ Ideal.ofBits .f32 730643660#32 = (e : EReal) := by
  refine ⟨(2 ^ 23 + 834764 : ℝ) * (2 : ℝ) ^ (-63 : ℤ), by positivity, ?_⟩
  simp [Ideal.ofBits, Ideal.ieee, -EReal.coe_mul]
  norm_num

/-- The word of the most negative finite number is below minus 2²⁰. -/
theorem low_word : Ideal.ofBits .f32 4286578687#32 < ((-1048576 : ℝ) : EReal) := by
  simp [Ideal.ofBits, Ideal.ieee, -EReal.coe_mul]
  norm_num

/-- A finite sum of real numbers. -/
theorem coe_sum {ι : Type} (s : Finset ι) (f : ι → ℝ) : ((∑ x ∈ s, f x : ℝ) : EReal) = ∑ x ∈ s, (f x : EReal) := by
  classical
  induction s using Finset.induction_on with
  | empty => simp
  | insert x s hx ih => rw [Finset.sum_insert hx, Finset.sum_insert hx, EReal.coe_add, ih]

/-- A square is not negative. -/
theorem sq_nonneg (x : EReal) : 0 ≤ x * x := by
  induction x with
  | bot => simp
  | top => simp
  | coe r => exact_mod_cast mul_self_nonneg r

/-- Each entry of a unit vector is a real number between minus one and one. -/
theorem unit_real (f : Fin 1024 → EReal) (c : Fin 1024) : ∃ u : ℝ, unit f c = (u : EReal) ∧ |u| ≤ 1 := by
  obtain ⟨e, he, hw⟩ := eps_word
  unfold unit
  rw [hw]
  have hS : 0 ≤ ∑ x, f x * f x := Finset.sum_nonneg fun x _ => sq_nonneg (f x)
  have hc : f c * f c ≤ ∑ x, f x * f x :=
    Finset.single_le_sum (f := fun x => f x * f x) (fun x _ => sq_nonneg (f x)) (Finset.mem_univ c)
  generalize (∑ x, f x * f x) = S at hS hc
  induction S with
  | bot => simp at hS
  | top =>
    rw [Ideal.sqrt_top, max_eq_left le_top]
    unfold Ideal.div
    rw [if_neg (by simp)]
    exact ⟨0, by simp, by simp⟩
  | coe s =>
    have hs : 0 ≤ s := by exact_mod_cast hS
    generalize f c = y at hc
    induction y with
    | bot => simp at hc
    | top => simp at hc
    | coe y =>
      have hy : y * y ≤ s := by exact_mod_cast hc
      have hm : 0 < max (Real.sqrt s) e := lt_max_of_lt_right he
      rw [Ideal.sqrt_coe, if_neg (not_lt.mpr hs), ← EReal.coe_strictMono.monotone.map_max]
      unfold Ideal.div
      rw [if_neg (by exact_mod_cast hm.ne'), ← EReal.coe_inv, ← EReal.coe_mul]
      refine ⟨_, rfl, ?_⟩
      rw [← div_eq_mul_inv, abs_div, abs_of_pos hm, div_le_one hm]
      exact (Real.abs_le_sqrt (by nlinarith [hy])).trans (le_max_left _ _)

namespace Args

variable (a : Args)

/-- A correlation is a real number, at most 1024 in size. -/
theorem corr_real (b : Fin 2) (p q : Fin 1024) : ∃ x : ℝ, a.corr b p q = (x : EReal) ∧ |x| ≤ 1024 := by
  choose u hu hu1 using unit_real (fun c => a.r b c p)
  choose v hv hv1 using unit_real (fun c => a.u b c q)
  refine ⟨∑ c, u c * v c, ?_, ?_⟩
  · unfold corr
    rw [coe_sum]
    exact Finset.sum_congr rfl fun c _ => by rw [hu, hv, EReal.coe_mul]
  · refine (Finset.abs_sum_le_sum_abs _ _).trans ((Finset.sum_le_card_nsmul _ _ 1 fun c _ => ?_).trans (by simp))
    rw [abs_mul]
    exact mul_le_one₀ (hu1 c) (abs_nonneg _) (hv1 c)

/-- The correlation without its foreground part is its background part. -/
theorem corr_sub_fg (b : Fin 2) (p q : Fin 1024) : a.corr b p q - a.fg b p q = a.bgd b p q := by
  obtain ⟨x, hx, -⟩ := a.corr_real b p q
  unfold fg bgd inside outside
  rw [hx]
  by_cases h : Ideal.ofBits .f32 1056964608#32 < a.k b p
  · rw [if_pos h, if_pos h, mul_one, mul_zero, ← EReal.coe_sub, sub_self, EReal.coe_zero]
  · rw [if_neg h, if_neg h, mul_one, mul_zero, sub_zero]

/-- A foreground entry is a real number, at most 1024 in size. -/
theorem fg_real (b : Fin 2) (p q : Fin 1024) : ∃ x : ℝ, a.fg b p q = (x : EReal) ∧ |x| ≤ 1024 := by
  obtain ⟨x, hx, h1⟩ := a.corr_real b p q
  unfold fg inside
  rw [hx]
  by_cases h : Ideal.ofBits .f32 1056964608#32 < a.k b p
  · rw [if_pos h]; exact ⟨x, mul_one _, h1⟩
  · rw [if_neg h]; exact ⟨0, mul_zero _, by simp⟩

/-- Every score is above the most negative finite number. -/
theorem low_lt_score (b : Fin 2) (q : Fin 1024) : Ideal.ofBits .f32 4286578687#32 < a.score b q := by
  choose x hx h1 using fun p => a.fg_real b p q
  have e : a.score b q = ((∑ p, x p : ℝ) : EReal) := by
    unfold score
    rw [coe_sum]
    exact Finset.sum_congr rfl fun p _ => hx p
  rw [e]
  refine low_word.trans_le ?_
  have h2 : |∑ p, x p| ≤ 1048576 :=
    (Finset.abs_sum_le_sum_abs _ _).trans ((Finset.sum_le_card_nsmul _ _ 1024 fun p _ => h1 p).trans (by simp; norm_num))
  exact_mod_cast (abs_le.mp h2).1

end Args

end Cert.Proof
-- ==== Proof.Struct.lean ====
/-
  The stored blocks of self-structure and segmentation entries, with the 32 steps of the score selection as one
  recursion.
-/
module

public import proofs.«01_k».proof.Proof.Gen.KernelIdeal.Frame

@[expose] public section

set_option maxRecDepth 16384

noncomputable section

namespace Cert.Proof.Struct

open Idealize.ShloMosaic
open Cert.KernelIdeal Cert.KernelIdeal.Gen

variable {F : FTy → Type} [FloatOps F]

/-- The number of every lane. -/
def lanes : IVec S1x1024 32 := iota .tc S1x1024 32 [1] iota_S1x1024_d1_w32

/-- The least lane at which the scores are greatest. -/
def firstv (w : FVec F S1x1024 .f32) : IVec S1x1 32 :=
  shapeCast S1x1 (multiReductionI .minsi [1] S1 (select (cmpf .oeq w (broadcastTo S1x1024
    (shapeCast S1x1 (multiReduction .maximumf [1] S1 w 0xFF800000#32 reduces_S1x1024_S1 (.inl rfl) rfl) shapeCasts_S1_S1x1)
    broadcasts_S1x1_S1x1024)) lanes (broadcast S1x1024 1024#32)) 2147483647#32 reduces_S1x1024_S1 rfl) shapeCasts_S1_S1x1

/-- The scores with the chosen lane taken out. -/
def nextv (w : FVec F S1x1024 .f32) : FVec F S1x1024 .f32 :=
  select (cmpi .eq lanes (broadcastTo S1x1024 (firstv w) broadcasts_S1x1_S1x1024))
    (broadcast S1x1024 (Scalar.ofBits .f32 0xFF7FFFFF#32)) w

/-- The chosen lane marked with a one in row `i`. -/
def markv (i : ℕ) (w : FVec F S1x1024 .f32) (o : FVec F S32x1024 .f32) : FVec F S32x1024 .f32 :=
  select (andi (cmpi .eq (iota .tc S32x1024 32 [0] iota_S32x1024_d0_w32) (broadcast S32x1024 (BitVec.ofNat 32 i)))
    (cmpi .eq (iota .tc S32x1024 32 [1] iota_S32x1024_d1_w32) (broadcastTo S32x1024 (firstv w) broadcasts_S1x1_S32x1024)))
    (broadcast S32x1024 (Scalar.ofBits .f32 0x3F800000#32)) o

/-- The scores left after `n` choices. -/
def works (w : FVec F S1x1024 .f32) : ℕ → FVec F S1x1024 .f32
  | 0 => w
  | n + 1 => nextv (works w n)

/-- The marks of the first `n` choices. -/
def marks (w : FVec F S1x1024 .f32) : ℕ → FVec F S32x1024 .f32
  | 0 => broadcast S32x1024 (Scalar.ofBits .f32 0x00000000#32)
  | n + 1 => markv n (works w n) (marks w n)

/-- The structure: the chosen positions' reference features against all of them. -/
def structv (r : FVec F S1024x1024 .f32) (w : FVec F S1x1024 .f32) : FVec F S32x1024 .f32 :=
  matmul dot_S32x1024_S1024x1024_S32x1024_1_0_0_1_n_n none
    (matmul dot_S32x1024_S1024x1024_S32x1024_1_1_0_0_n_n none (marks w 32) r (constant S32x1024 .f32 0x00000000#32)) r
    (constant S32x1024 .f32 0x00000000#32)

/-- The group half, from the structure. -/
def groupv (r : FVec F S1024x1024 .f32) (t : FVec F S32x1024 .f32) (k : Vec F S1024x1024 .f32) (b : Vec F S1024x1 .f32) :
    FVec F S32x1024 .f32 :=
  multiReduction .add [0] S32x1024
    (mulf (shapeCast S32x32x1024 (maximumf (addf
        (matmul dot_S1024x1024_S1024x1024_S1024x1024_1_0_0_1_n_n none
          (shapeCast S1024x1024 k shapeCasts_S1024x1024_S1024x1024) r (constant S1024x1024 .f32 0x00000000#32))
        (broadcastTo S1024x1024 (shapeCast S1024x1 b shapeCasts_S1024x1_S1024x1) broadcasts_S1024x1_S1024x1024))
        (broadcast S1024x1024 (Scalar.ofBits .f32 0x00000000#32))) shapeCasts_S1024x1024_S32x32x1024)
      (broadcastTo S32x32x1024 (shapeCast S32x1x1024 t shapeCasts_S32x1024_S32x1x1024)
        broadcasts_S32x1x1024_S32x32x1024))
    0x00000000#32 reduces_S32x32x1024_S32x1024 (.inl rfl) rfl

/-- The global half, from the structure. -/
def globalv (r : FVec F S1024x1024 .f32) (t : FVec F S32x1024 .f32) (k : Vec F S32x1024 .f32) (b : Vec F S32x1 .f32) :
    FVec F S32x1024 .f32 :=
  mulf (broadcastTo S32x1024 (divf (shapeCast S1x1024
      (multiReduction .add [0] S1024 t 0x00000000#32 reduces_S32x1024_S1024 (.inl rfl) rfl) shapeCasts_S1024_S1x1024)
      (broadcast S1x1024 (Scalar.ofBits .f32 0x42000000#32))) broadcasts_S1x1024_S32x1024)
    (maximumf (addf
      (matmul dot_S32x1024_S1024x1024_S32x1024_1_0_0_1_n_n none (shapeCast S32x1024 k shapeCasts_S32x1024_S32x1024) r
        (constant S32x1024 .f32 0x00000000#32))
      (broadcastTo S32x1024 (shapeCast S32x1 b shapeCasts_S32x1_S32x1) broadcasts_S32x1_S32x1024))
      (broadcast S32x1024 (Scalar.ofBits .f32 0x00000000#32)))

/-- Both halves, one above the other. -/
def bothv (r : FVec F S1024x1024 .f32) (w : FVec F S1x1024 .f32) (k : Vec F S1024x1024 .f32) (b : Vec F S1024x1 .f32)
    (k' : Vec F S32x1024 .f32) (b' : Vec F S32x1 .f32) : FVec F S64x1024 .f32 :=
  concatenate S64x1024 0 [⟨S32x1024, groupv r (structv r w) k b⟩, ⟨S32x1024, globalv r (structv r w) k' b'⟩]
    concatenates_S32x1024_S32x1024_S64x1024_d0

variable (x0 : Vec F S1x1024x1024 .f32) (x1 : Vec F S1x1024x1024 .f32) (x2 : Vec F S1x1024x1 .f32)
  (x3 : Vec F S1024x1024 .f32) (x4 : Vec F S1024x1 .f32) (x5 : Vec F S32x1024 .f32) (x6 : Vec F S32x1 .f32)
  (x7 : Vec F S2x64 .f32) (x8 : Vec F S2x1 .f32)

theorem out11_eq : out0_11 x0 x1 x2 x3 x4 x5 x6 x7 x8 = View.canon [⟨r0_7, shapeCast S1x64x1024
    (bothv (k0_pay206 x0 x1 x2 x3 x4 x5 x6 x7 x8) (k0_pay207 x0 x1 x2 x3 x4 x5 x6 x7 x8) (View.ld x3 r0_3) (View.ld x4 r0_4)
      (View.ld x5 r0_5) (View.ld x6 r0_6)) shapeCasts_S64x1024_S1x64x1024⟩] := rfl

theorem out12_eq : out0_12 x0 x1 x2 x3 x4 x5 x6 x7 x8 = View.canon [⟨r0_10, k0_pay1
    (bothv (k0_pay206 x0 x1 x2 x3 x4 x5 x6 x7 x8) (k0_pay207 x0 x1 x2 x3 x4 x5 x6 x7 x8) (View.ld x3 r0_3) (View.ld x4 r0_4)
      (View.ld x5 r0_5) (View.ld x6 r0_6)) (View.ld x7 r0_8) (View.ld x8 r0_9)⟩] := rfl

end Cert.Proof.Struct
-- ==== Proof.Pick.lean ====
/-
  The 32 steps of the score selection: each finds the first lane at which the scores left are greatest, marks it and
  takes it out; so row i of the marks is one at the i-th position of the stable descending order and zero elsewhere.
-/
module

public import proofs.«01_k».proof.Proof.Struct
public import proofs.«01_k».proof.Proof.Spec

@[expose] public section

set_option maxRecDepth 16384

noncomputable section

namespace Cert.Proof.Pick

open Idealize.ShloMosaic
open Idealize.ShloMosaic (ix1 ix2 ix3 ix4)
open Cert.KernelIdeal Cert.KernelIdeal.Gen
open Cert.Proof.Struct Cert.Proof.TopK

/-- The word of negative infinity. -/
theorem bot_word : Ideal.ofBits .f32 4286578688#32 = (⊥ : EReal) := by
  simp [Ideal.ofBits, Ideal.ieee]

/-- A fold of the larger of two from the least element is at least every entry, and is attained. -/
theorem fold_max (f : Fin 1024 → EReal) :
    (∀ q, f q ≤ Finset.fold max ⊥ f Finset.univ) ∧ ∃ p, f p = Finset.fold max ⊥ f Finset.univ := by
  have hs : Finset.fold max ⊥ f Finset.univ = Finset.univ.sup f := rfl
  rw [hs]
  refine ⟨fun q => Finset.le_sup (Finset.mem_univ q), ?_⟩
  obtain ⟨p, -, hp⟩ := Finset.exists_mem_eq_sup Finset.univ ⟨0, Finset.mem_univ _⟩ f
  exact ⟨p, hp.symm⟩

/-- The smaller of two signed words, as integers. -/
theorem minsi_toInt (x y : BitVec 32) : (IntOp.minsi x y).toInt = min x.toInt y.toInt := by
  unfold IntOp.minsi
  simp only [BitVec.slt, decide_eq_true_eq]
  split <;> omega

/-- A lane number as an integer. -/
theorem lane_toInt (p : ℕ) (hp : p < 1025) : (BitVec.ofNat 32 p).toInt = p := by
  rw [BitVec.toInt_eq_toNat_cond, BitVec.toNat_ofNat, Nat.mod_eq_of_lt (by omega), if_pos (by omega)]

/-- The least of the lanes with a property, 1024 standing for the others, is the first such lane. -/
theorem fold_first (P : Fin 1024 → Prop) [DecidablePred P] (p : Fin 1024) (hp : P p) (hf : ∀ q < p, ¬ P q) :
    Finset.fold IntOp.minsi 2147483647#32 (fun x : Fin 1024 => if P x then BitVec.ofNat 32 x.val else 1024#32) Finset.univ
      = BitVec.ofNat 32 p.val := by
  have hx : ∀ x : Fin 1024, (if P x then BitVec.ofNat 32 x.val else 1024#32).toInt = if P x then (x.val : ℤ) else 1024 := by
    intro x
    by_cases h : P x
    · rw [if_pos h, if_pos h, lane_toInt _ (by omega)]
    · rw [if_neg h, if_neg h]; exact lane_toInt 1024 (by omega)
  apply BitVec.toInt_inj.mp
  have e1 : (Finset.fold IntOp.minsi 2147483647#32 (fun x : Fin 1024 => if P x then BitVec.ofNat 32 x.val else 1024#32)
      Finset.univ).toInt = Finset.fold min 2147483647 (fun x : Fin 1024 => if P x then (x.val : ℤ) else 1024) Finset.univ := by
    rw [← Finset.fold_hom (op' := min) (m := BitVec.toInt) minsi_toInt]
    simp only [hx]
    rfl
  rw [e1, lane_toInt p.val (by omega)]
  refine le_antisymm ?_ ?_
  · rw [Finset.fold_min_le]
    exact Or.inr ⟨p, Finset.mem_univ _, by rw [if_pos hp]⟩
  · rw [Finset.le_fold_min]
    refine ⟨?_, fun x _ => ?_⟩
    · omega
    · by_cases h : P x
      · rw [if_pos h]
        have : ¬ x < p := fun hlt => hf x hlt h
        have : p.val ≤ x.val := not_lt.mp this
        omega
      · rw [if_neg h]; omega

/-- The row of scores as a function of the lane. -/
def row (w : FVec Ideal S1x1024 .f32) : Fin 1024 → EReal := fun q => w (ix2 0 q)

/-- The chosen lane is the first at which the scores are greatest. -/
theorem firstv_at (w : FVec Ideal S1x1024 .f32) :
    ∃ p, First (row w) p ∧ firstv w (ix2 0 0) = BitVec.ofNat 32 p.val := by
  obtain ⟨hle, p₀, hp₀⟩ := fold_max (row w)
  have hex : ∃ p, row w p = Finset.fold max ⊥ (row w) Finset.univ := ⟨p₀, hp₀⟩
  classical
  obtain ⟨p, hp, hmin⟩ : ∃ p, row w p = Finset.fold max ⊥ (row w) Finset.univ
      ∧ ∀ q < p, row w q ≠ Finset.fold max ⊥ (row w) Finset.univ := by
    obtain ⟨p, hp, hm⟩ := WellFounded.has_min (wellFounded_lt (α := Fin 1024))
      {p | row w p = Finset.fold max ⊥ (row w) Finset.univ} hex
    exact ⟨p, hp, fun q hq e => hm q e hq⟩
  refine ⟨p, ⟨fun q => (hle q).trans hp.ge, fun q hq => ?_⟩, ?_⟩
  · exact lt_of_le_of_ne ((hle q).trans hp.ge) fun e => hmin q hq (e.trans hp)
  · pointwise [firstv, lanes]
    rw [bot_word]
    exact (fold_first (fun x => row w x = Finset.fold max ⊥ (row w) Finset.univ) p hp hmin)

/-- The chosen lane. -/
def lane (w : FVec Ideal S1x1024 .f32) : Fin 1024 := (firstv_at w).choose

theorem lane_first (w : FVec Ideal S1x1024 .f32) : First (row w) (lane w) := (firstv_at w).choose_spec.1

theorem firstv_eq (w : FVec Ideal S1x1024 .f32) : firstv w (ix2 0 0) = BitVec.ofNat 32 (lane w).val :=
  (firstv_at w).choose_spec.2

/-- Two lane numbers' words are equal exactly when the numbers are. -/
theorem word_eq (x y : ℕ) (hx : x < 1024) (hy : y < 1024) :
    IntOp.cmpi .eq (BitVec.ofNat 32 x) (BitVec.ofNat 32 y) = if x = y then 1#1 else 0#1 := by
  show BitVec.ofBool (BitVec.ofNat 32 x == BitVec.ofNat 32 y) = _
  by_cases h : x = y
  · rw [if_pos h, h, beq_self_eq_true]; rfl
  · have e : BitVec.ofNat 32 x ≠ BitVec.ofNat 32 y := by
      intro e
      have := congrArg BitVec.toNat e
      simp only [BitVec.toNat_ofNat] at this
      omega
    rw [if_neg h, beq_eq_false_iff_ne.mpr e]; rfl

/-- The word of the most negative finite number, as a value. -/
def low : EReal := Ideal.ofBits .f32 4286578687#32

/-- One step takes the chosen lane out. -/
theorem row_next (w : FVec Ideal S1x1024 .f32) : row (nextv w) = without low (row w) (lane w) := by
  funext q
  show nextv w (ix2 0 q) = _
  pointwise [nextv, lanes]
  rw [firstv_eq, word_eq _ _ q.isLt (lane w).isLt]
  unfold without low row Scalar.select
  by_cases h : q = lane w
  · rw [if_pos (congrArg Fin.val h), if_pos h]; rfl
  · rw [if_neg (fun e => h (Fin.ext e)), if_neg h]; rfl

/-- One step marks the chosen lane in its row. -/
theorem mark_at (n : ℕ) (hn : n < 32) (w : FVec Ideal S1x1024 .f32) (o : FVec Ideal S32x1024 .f32) (i : Fin 32) (q : Fin 1024) :
    markv n w o (ix2 i q) = if i.val = n ∧ q = lane w then (1 : EReal) else o (ix2 i q) := by
  pointwise [markv]
  rw [firstv_eq, word_eq _ _ q.isLt (lane w).isLt, word_eq _ _ (by omega) (by omega)]
  unfold Scalar.select
  by_cases h : i.val = n <;> by_cases h' : q = lane w
  · rw [if_pos h, if_pos (congrArg Fin.val h')]; exact (if_pos ⟨h, h'⟩).symm
  · rw [if_pos h, if_neg (fun e => h' (Fin.ext e))]; exact (if_neg (fun e => h' e.2)).symm
  · rw [if_neg h, if_pos (congrArg Fin.val h')]; exact (if_neg (fun e => h e.1)).symm
  · rw [if_neg h, if_neg (fun e => h' (Fin.ext e))]; exact (if_neg (fun e => h e.1)).symm

/-- The marks after `n` steps: row `i` has a one at the lane of step `i`, if that step is among them. -/
theorem marks_at (w : FVec Ideal S1x1024 .f32) (n : ℕ) (hn : n ≤ 32) (i : Fin 32) (q : Fin 1024) :
    marks w n (ix2 i q) = if i.val < n ∧ q = lane (works w i.val) then (1 : EReal) else 0 := by
  induction n with
  | zero =>
    pointwise [marks]
    rw [if_neg (by omega)]
  | succ n ih =>
    show markv n (works w n) (marks w n) (ix2 i q) = _
    rw [mark_at n (by omega), ih (by omega)]
    by_cases h : i.val = n
    · by_cases h' : q = lane (works w n)
      · rw [if_pos ⟨h, h'⟩, if_pos ⟨by omega, by rw [h]; exact h'⟩]
      · rw [if_neg (fun e => h' e.2), if_neg (by omega), if_neg (fun e => h' (by rw [← h]; exact e.2))]
    · rw [if_neg (fun e => h e.1)]
      by_cases h' : q = lane (works w i.val)
      · simp only [h', and_true]
        by_cases h'' : i.val < n
        · rw [if_pos h'', if_pos (by omega)]
        · rw [if_neg h'', if_neg (by omega)]
      · rw [if_neg (fun e => h' e.2), if_neg (fun e => h' e.2)]

/-- All the marks: row `i` has its one at the `i`-th position of the stable descending order of the scores. -/
theorem marks_all (w : FVec Ideal S1x1024 .f32) (f : Fin 1024 → EReal) (hf : ∀ q, w (ix2 0 q) = f q) (hz : ∀ q, low < f q)
    (i : Fin 32) (q : Fin 1024) :
    marks w 32 (ix2 i q) = if q = sortedFrom (above f) (i.castLE (by decide)) then (1 : EReal) else 0 := by
  have h := choices (k := 32) (by decide) low f hz (fun n => row (works w n)) (fun n => lane (works w n))
    (funext hf) (fun n => row_next (works w n)) (fun n => lane_first (works w n)) i
  rw [marks_at w 32 le_rfl, h]
  simp only [i.isLt, true_and]

end Cert.Proof.Pick
-- ==== Proof.Body.lean ====
/-
  What the kernel body stores at each grid point, entry by entry, in terms of the program's arguments.
-/
module

public import proofs.«01_k».proof.Proof.Entry
public import proofs.«01_k».proof.Proof.Columns
public import proofs.«01_k».proof.Proof.Bitonic
public import proofs.«01_k».proof.Proof.Bounds
public import proofs.«01_k».proof.Proof.Pick

@[expose] public section

set_option maxRecDepth 16384

noncomputable section

namespace Cert.Proof.Body

open Idealize.ShloMosaic Idealize.ShloMosaic.TcCoe
open Idealize.ShloMosaic (ix1 ix2 ix3 ix4)
open Cert.KernelIdeal Cert.KernelIdeal.Gen
open Cert.Proof.Arrays Cert.Proof.Entry Cert.Proof.Columns Cert.Proof.Struct Cert.Proof.Bitonic Cert.Proof.Pick

/-- A column continued by zeros. -/
def long (f : Fin 1024 → EReal) (n : ℕ) : EReal := if h : n < 1024 then f ⟨n, h⟩ else 0

theorem long_at (f : Fin 1024 → EReal) (p : Fin 1024) : long f p.val = f p := dif_pos p.isLt

/-- Entry `i` of the network on a column is the column's `i`-th greatest value. -/
theorem top_nth (f : Fin 1024 → EReal) (i : Fin 32) : top (long f) i.val = Args.nth f i := by
  refine eq_of_forall_le_iff fun t => ?_
  rw [le_top _ _ _ i.isLt]
  unfold Args.nth
  rw [TopK.le_sorted f t (i.castLE (by decide))]
  simp only [long_at]
  rfl

theorem zero3 : (![0, 0, 0] : Fin 3 → Nat) = fun _ => 0 := funext fun a => by fin_cases a <;> rfl
theorem zero2 : (![0, 0] : Fin 2 → Nat) = fun _ => 0 := funext fun a => by fin_cases a <;> rfl

/- Each load takes a whole block. -/
theorem ld0 (x : Vec Ideal S1x1024x1024 .f32) : View.ld x r0_0 = x := View.ld_unit_zero zero3 _ _
theorem ld1 (x : Vec Ideal S1x1024x1 .f32) : View.ld x r0_1 = x := View.ld_unit_zero zero3 _ _
theorem ld3 (x : Vec Ideal S1024x1024 .f32) : View.ld x r0_3 = x := View.ld_unit_zero zero2 _ _
theorem ld4 (x : Vec Ideal S1024x1 .f32) : View.ld x r0_4 = x := View.ld_unit_zero zero2 _ _
theorem ld5 (x : Vec Ideal S32x1024 .f32) : View.ld x r0_5 = x := View.ld_unit_zero zero2 _ _
theorem ld6 (x : Vec Ideal S32x1 .f32) : View.ld x r0_6 = x := View.ld_unit_zero zero2 _ _
theorem ld8 (x : Vec Ideal S2x64 .f32) : View.ld x r0_8 = x := View.ld_unit_zero zero2 _ _
theorem ld9 (x : Vec Ideal S2x1 .f32) : View.ld x r0_9 = x := View.ld_unit_zero zero2 _ _

section Reads

variable (x0 : Vec Ideal S1x1024x1024 .f32) (x1 : Vec Ideal S1x1024x1024 .f32) (x2 : Vec Ideal S1x1024x1 .f32)

/-- The correlation the body forms. -/
theorem pay3_at (a : Args) (b : Fin 2) (h0 : ∀ p q, x0 (ix3 0 p q) = a.u b p q) (h1 : ∀ p q, x1 (ix3 0 p q) = a.r b p q)
    (p q : Fin 1024) : k0_pay3 x0 x1 (ix2 p q) = a.corr b p q := by
  pointwise [k0_pay3, k0_pay2]
  simp only [h0, h1]
  rfl

/-- The correlation with the foreground. -/
theorem pay4_at (a : Args) (b : Fin 2) (h0 : ∀ p q, x0 (ix3 0 p q) = a.u b p q) (h1 : ∀ p q, x1 (ix3 0 p q) = a.r b p q)
    (h2 : ∀ p, x2 (ix3 0 p 0) = a.inside b p) (p q : Fin 1024) : k0_pay4 x0 x1 x2 (ix2 p q) = a.fg b p q := by
  have e : k0_pay4 x0 x1 x2 (ix2 p q) = k0_pay3 x0 x1 (ix2 p q) * x2 (ix3 0 p 0) := by
    pointwise [k0_pay4]
  rw [e, pay3_at x0 x1 a b h0 h1, h2]
  rfl

/-- The correlation with the background. -/
theorem pay5_at (a : Args) (b : Fin 2) (h0 : ∀ p q, x0 (ix3 0 p q) = a.u b p q) (h1 : ∀ p q, x1 (ix3 0 p q) = a.r b p q)
    (h2 : ∀ p, x2 (ix3 0 p 0) = a.inside b p) (p q : Fin 1024) : k0_pay5 x0 x1 x2 (ix2 p q) = a.bgd b p q := by
  have e : k0_pay5 x0 x1 x2 (ix2 p q) = k0_pay3 x0 x1 (ix2 p q) - k0_pay4 x0 x1 x2 (ix2 p q) := rfl
  rw [e, pay3_at x0 x1 a b h0 h1, pay4_at x0 x1 x2 a b h0 h1 h2]
  exact a.corr_sub_fg b p q

/-- The score row. -/
theorem pay6_at (a : Args) (b : Fin 2) (h0 : ∀ p q, x0 (ix3 0 p q) = a.u b p q) (h1 : ∀ p q, x1 (ix3 0 p q) = a.r b p q)
    (h2 : ∀ p, x2 (ix3 0 p 0) = a.inside b p) (q : Fin 1024) : k0_pay6 x0 x1 x2 (ix2 0 q) = a.score b q := by
  have e : k0_pay6 x0 x1 x2 (ix2 0 q) = (∑ p, k0_pay4 x0 x1 x2 (ix2 p q) : EReal) := by
    pointwise [k0_pay6]
  rw [e]
  unfold Args.score
  show @Eq EReal _ _
  exact Finset.sum_congr rfl fun p _ => pay4_at x0 x1 x2 a b h0 h1 h2 p q

end Reads

section Halves

variable (a : Args) (b : Fin 2)
variable (r : FVec Ideal S1024x1024 .f32) (w : FVec Ideal S1x1024 .f32)

/-- The structure the body forms. -/
theorem structv_at (hr : ∀ p q, r (ix2 p q) = a.r b p q) (hw : ∀ q, w (ix2 0 q) = a.score b q) (i : Fin 32) (q : Fin 1024) :
    structv r w (ix2 i q) = a.struct b i q := by
  have e : structv r w (ix2 i q) = (∑ x, (∑ y, marks w 32 (ix2 i y) * r (ix2 x y)) * r (ix2 x q) : EReal) := by
    pointwise [structv]
  rw [e]
  unfold Args.struct
  show @Eq EReal _ _
  refine Finset.sum_congr rfl fun x _ => ?_
  rw [hr x q]
  refine congrArg (· * a.r b x q) ?_
  have h : ∀ y, marks w 32 (ix2 i y) * r (ix2 x y) = (if y = a.pick b i then a.r b x y else 0 : EReal) := by
    intro y
    rw [hr x y]
    have hm : (marks w 32 (ix2 i y) : EReal) = if y = a.pick b i then 1 else 0 :=
      marks_all w (a.score b) hw (fun q => a.low_lt_score b q) i y
    refine (congrArg (fun z : EReal => z * a.r b x y) hm).trans ?_
    by_cases h : y = a.pick b i
    · simp only [if_pos h, one_mul]
    · simp only [if_neg h, zero_mul]
  refine (Finset.sum_congr rfl fun y _ => h y).trans ?_
  rw [Finset.sum_ite_eq' Finset.univ (a.pick b i), if_pos (Finset.mem_univ _)]

/-- A sum over all channels of which only one group counts is the sum over the group. -/
theorem sum_group (f : Fin 1024 → EReal) (x : Fin 32) :
    (∑ c, if x = hi c then f c else 0) = ∑ y, f (at' x y) := by
  rw [← Finset.sum_filter]
  refine (Finset.sum_bij (fun y _ => at' x y) ?_ ?_ ?_ ?_).symm
  · intro y _
    exact Finset.mem_filter.2 ⟨Finset.mem_univ _, (hi_at x y).symm⟩
  · intro y _ z _ h
    rw [← lo_at x y, ← lo_at x z, h]
  · intro c hc
    refine ⟨lo c, Finset.mem_univ _, ?_⟩
    rw [(Finset.mem_filter.1 hc).2, at_hi_lo]
  · intro y _
    rfl

/-- The group half the body forms. -/
theorem groupv_at (hr : ∀ p q, r (ix2 p q) = a.r b p q) (t : FVec Ideal S32x1024 .f32) (ht : ∀ i q, t (ix2 i q) = a.struct b i q)
    (k : Vec Ideal S1024x1024 .f32) (hk : ∀ p q, k (ix2 p q) = a.wg p (lo q) * (if hi p = hi q then 1 else 0))
    (v : Vec Ideal S1024x1 .f32) (hv : ∀ p, v (ix2 p 0) = a.bg p) (z : Fin 32) (q : Fin 1024) :
    groupv r t k v (ix2 z q) = a.group b z q := by
  have e : groupv r t k v (ix2 z q)
      = (∑ x, max (∑ y, k (ix2 (at' x z) y) * r (ix2 y q) + v (ix2 (at' x z) 0)) 0 * t (ix2 x q) : EReal) := by
    pointwise [groupv]
    rfl
  rw [e]
  unfold Args.group
  show @Eq EReal _ _
  refine Finset.sum_congr rfl fun x _ => ?_
  rw [ht, hv, mul_comm]
  refine congrArg (fun s : EReal => a.struct b x q * max (s + a.bg (at' x z)) 0) ?_
  refine Eq.trans ?_ ((sum_group (fun c => a.r b c q * a.wg (at' x z) (lo c)) x).trans (by simp only [lo_at]))
  refine Finset.sum_congr rfl fun c _ => ?_
  rw [hk, hr, hi_at]
  by_cases h : x = hi c
  · simp only [if_pos h, mul_one]; rw [mul_comm]
  · simp only [if_neg h, mul_zero, zero_mul]

/-- The global half the body forms. -/
theorem globalv_at (hr : ∀ p q, r (ix2 p q) = a.r b p q) (t : FVec Ideal S32x1024 .f32) (ht : ∀ i q, t (ix2 i q) = a.struct b i q)
    (k : Vec Ideal S32x1024 .f32) (hk : ∀ p q, k (ix2 p q) = a.wl p q)
    (v : Vec Ideal S32x1 .f32) (hv : ∀ p, v (ix2 p 0) = a.bl p) (z : Fin 32) (q : Fin 1024) :
    globalv r t k v (ix2 z q) = a.global b z q := by
  have e : globalv r t k v (ix2 z q) = (Ideal.div (∑ x, t (ix2 x q)) (Ideal.ofBits .f32 1107296256#32)
      * max (∑ x, k (ix2 z x) * r (ix2 x q) + v (ix2 z 0)) 0 : EReal) := by
    pointwise [globalv]
  rw [e]
  unfold Args.global
  have h1 : (∑ x, t (ix2 x q) : EReal) = ∑ x, a.struct b x q := Finset.sum_congr rfl fun x _ => ht x q
  have h2 : (∑ x, k (ix2 z x) * r (ix2 x q) : EReal) = ∑ c, a.r b c q * a.wl z c := by
    refine Finset.sum_congr rfl fun x _ => ?_
    rw [hk, hr, mul_comm]
  rw [h1, h2, hv]

/-- Both halves the body forms. -/
theorem bothv_at (hr : ∀ p q, r (ix2 p q) = a.r b p q) (hw : ∀ q, w (ix2 0 q) = a.score b q)
    (k : Vec Ideal S1024x1024 .f32) (hk : ∀ p q, k (ix2 p q) = a.wg p (lo q) * (if hi p = hi q then 1 else 0))
    (v : Vec Ideal S1024x1 .f32) (hv : ∀ p, v (ix2 p 0) = a.bg p)
    (k' : Vec Ideal S32x1024 .f32) (hk' : ∀ p q, k' (ix2 p q) = a.wl p q)
    (v' : Vec Ideal S32x1 .f32) (hv' : ∀ p, v' (ix2 p 0) = a.bl p) (z : Fin 64) (q : Fin 1024) :
    bothv r w k v k' v' (ix2 z q) = a.both b z q := by
  have ht := structv_at a b r w hr hw
  have e : bothv r w k v k' v' (ix2 z q) = if h : z.val < 32 then groupv r (structv r w) k v (ix2 ⟨z.val, h⟩ q)
      else globalv r (structv r w) k' v' (ix2 ⟨z.val - 32, by omega⟩ q) := by
    pointwise [bothv]
  rw [e]
  unfold Args.both
  by_cases h : z.val < 32
  · simp only [dif_pos h]
    exact groupv_at a b r hr _ ht k hk v hv _ q
  · simp only [dif_neg h]
    exact globalv_at a b r hr _ ht k' hk' v' hv' _ q

end Halves

variable (m : (ℓ : Loc nD τ sig) → Buf (Elt Ideal) ℓ)

/-- The block of foreground entries. -/
theorem stored9_at (c : Dev nD) (b : Fin 2) (i : Fin 32) (q : Fin 1024) :
    stored9 m c (pt b) (ix3 0 i q) = Args.nth (fun p => (args m c).fg b p q) i := by
  have hx : Stage.Holds (n := 1024) (k0_pay208 (iblk m c 0 (pt b)) (iblk m c 1 (pt b)) (iblk m c 2 (pt b)) (iblk m c 3 (pt b))
      (iblk m c 4 (pt b)) (iblk m c 5 (pt b)) (iblk m c 6 (pt b)) (iblk m c 7 (pt b)) (iblk m c 8 (pt b)))
      (fun q => long fun p => (args m c).fg b p q) := by
    intro p q
    show _ = long (fun _ => _) p.val
    rw [long_at]
    refine Eq.trans ?_ (pay4_at _ _ _ (args m c) b (block0_at m c b) (block1_at m c b) (block2_at m c b) p q)
    unfold k0_pay208 k0_pay7
    rw [ld0, ld0, ld1]
    rfl
  unfold stored9
  rw [out9_eq, View.canon_unit_zero zero3]
  refine Eq.trans ?_ ((holds_topv hx i q).trans (top_nth _ i))
  pointwise []

/-- The block of background entries. -/
theorem stored10_at (c : Dev nD) (b : Fin 2) (i : Fin 32) (q : Fin 1024) :
    stored10 m c (pt b) (ix3 0 i q) = Args.nth (fun p => (args m c).bgd b p q) i := by
  have hx : Stage.Holds (n := 1024) (k0_pay227 (iblk m c 0 (pt b)) (iblk m c 1 (pt b)) (iblk m c 2 (pt b)) (iblk m c 3 (pt b))
      (iblk m c 4 (pt b)) (iblk m c 5 (pt b)) (iblk m c 6 (pt b)) (iblk m c 7 (pt b)) (iblk m c 8 (pt b)))
      (fun q => long fun p => (args m c).bgd b p q) := by
    intro p q
    show _ = long (fun _ => _) p.val
    rw [long_at]
    refine Eq.trans ?_ (pay5_at _ _ _ (args m c) b (block0_at m c b) (block1_at m c b) (block2_at m c b) p q)
    unfold k0_pay227 k0_pay60
    rw [ld0, ld0, ld1]
    rfl
  unfold stored10
  rw [out10_eq, View.canon_unit_zero zero3]
  refine Eq.trans ?_ ((holds_topv hx i q).trans (top_nth _ i))
  pointwise []

/-- Both halves at a grid point, from the blocks. -/
theorem halves_at (c : Dev nD) (b : Fin 2) (z : Fin 64) (q : Fin 1024) :
    bothv (k0_pay206 (iblk m c 0 (pt b)) (iblk m c 1 (pt b)) (iblk m c 2 (pt b)) (iblk m c 3 (pt b))
        (iblk m c 4 (pt b)) (iblk m c 5 (pt b)) (iblk m c 6 (pt b)) (iblk m c 7 (pt b)) (iblk m c 8 (pt b)))
      (k0_pay207 (iblk m c 0 (pt b)) (iblk m c 1 (pt b)) (iblk m c 2 (pt b)) (iblk m c 3 (pt b))
        (iblk m c 4 (pt b)) (iblk m c 5 (pt b)) (iblk m c 6 (pt b)) (iblk m c 7 (pt b)) (iblk m c 8 (pt b)))
      (View.ld (iblk m c 3 (pt b)) r0_3) (View.ld (iblk m c 4 (pt b)) r0_4)
      (View.ld (iblk m c 5 (pt b)) r0_5) (View.ld (iblk m c 6 (pt b)) r0_6) (ix2 z q) = (args m c).both b z q := by
  refine bothv_at (args m c) b _ _ (fun p q => ?_) (fun q => ?_) _ (fun p q => ?_) _ (fun p => ?_) _ (fun p q => ?_) _
    (fun p => ?_) z q
  · unfold k0_pay206
    rw [ld0]
    refine Eq.trans ?_ (block1_at m c b p q)
    pointwise [k0_pay2]
  · unfold k0_pay207
    rw [ld0, ld0, ld1]
    exact pay6_at _ _ _ (args m c) b (block0_at m c b) (block1_at m c b) (block2_at m c b) q
  · rw [ld3]; exact block3_at m c b p q
  · rw [ld4]; exact block4_at m c b p
  · rw [ld5]; exact block5_at m c b p q
  · rw [ld6]; exact block6_at m c b p

/-- The block of both halves. -/
theorem stored11_at (c : Dev nD) (b : Fin 2) (z : Fin 64) (q : Fin 1024) :
    stored11 m c (pt b) (ix3 0 z q) = (args m c).both b z q := by
  unfold stored11
  rw [out11_eq, View.canon_unit_zero zero3]
  refine Eq.trans ?_ (halves_at m c b z q)
  pointwise []
  rfl

/-- The block of the classifier's output. -/
theorem stored12_at (c : Dev nD) (b : Fin 2) (z : Fin 2) (q : Fin 1024) :
    stored12 m c (pt b) (ix3 0 z q) = (args m c).seg b z q := by
  have e : ∀ (r : FVec Ideal S64x1024 .f32) (t : Vec Ideal S2x64 .f32) (k : Vec Ideal S2x1 .f32),
      k0_pay1 r t k (ix3 0 z q) = (∑ x, t (ix2 z x) * r (ix2 x q) + k (ix2 z 0) : EReal) := by
    intro r t k
    pointwise [k0_pay1]
  unfold stored12
  rw [out12_eq, View.canon_unit_zero zero3]
  refine (e _ _ _).trans ?_
  rw [ld8, ld9]
  unfold Args.seg
  refine congrArg₂ (fun x y : EReal => x + y) (Finset.sum_congr rfl fun x _ => ?_) (block8_at m c b z)
  exact congrArg₂ (fun x y : EReal => x * y) (block7_at m c b z x) (halves_at m c b x q)

end Cert.Proof.Body
-- ==== Proof.KernelRun.lean ====
/-
  The kernel's run: its two results after the lines that follow the region, and its arguments unchanged.
-/
module

public import proofs.«01_k».proof.Proof.Entry

@[expose] public section

set_option maxRecDepth 16384

noncomputable section

namespace Cert.Proof.KernelRun

open Idealize.ShloMosaic Idealize.ShloMosaic.TcCoe Idealize.SL.Sem
open Idealize.ShloMosaic (ix1 ix2 ix3 ix4)
open Cert.KernelIdeal Cert.KernelIdeal.Gen
open Cert.Proof.Arrays

variable (m : (ℓ : Loc nD τ sig) → Buf (Elt Ideal) ℓ) (ρ : Dev nD → PrngReg)

/-- What a buffer holds when the program ends. -/
abbrev last (c : Dev nD) (b : Ref sig .tc) : Buf (Elt Ideal) ((c.tc : Thread nD τ).loc b) :=
  Pipeline.afterTail₀ cfgs (dats m) 0 (V0 m) [hostOps1] c b

/-- The contents at the region's end. -/
abbrev mid (c : Dev nD) : Valuation τ sig (Elt Ideal) :=
  Pipeline.withArrays (cfgs 0).spec c (V0 m c) fun w => (dats m 0 c).arrAt w (cfgs 0).N

theorem mid9 (c : Dev nD) : mid m c (Proc.devRef .tc main_v121_0) = stack (stored9 m c) :=
  (Pipeline.withArrays_arr (cfgs 0).spec winFacts0.arr_inj c (V0 m c) _ 9).trans (final9 m c)
theorem mid10 (c : Dev nD) : mid m c (Proc.devRef .tc main_v121_1) = stack (stored10 m c) :=
  (Pipeline.withArrays_arr (cfgs 0).spec winFacts0.arr_inj c (V0 m c) _ 10).trans (final10 m c)
theorem mid11 (c : Dev nD) : mid m c (Proc.devRef .tc main_v121_2) = stack (stored11 m c) :=
  (Pipeline.withArrays_arr (cfgs 0).spec winFacts0.arr_inj c (V0 m c) _ 11).trans (final11 m c)
theorem mid12 (c : Dev nD) : mid m c (Proc.devRef .tc main_v121_3) = stack (stored12 m c) :=
  (Pipeline.withArrays_arr (cfgs 0).spec winFacts0.arr_inj c (V0 m c) _ 12).trans (final12 m c)

/-- The last lines join the background entries, the foreground entries and the structure along the second axis. -/
theorem tail_corr (W : Valuation τ sig (Elt Ideal)) (b : Fin 2) (z : Fin 128) (i j : Fin 32) :
    (StableHlo.after [hostOps1].flatten W (Proc.devRef .tc main_v125) : FVec Ideal S2x128x32x32 .f32) (ix4 b z i j)
      = if h : z.val < 32 then (W (Proc.devRef .tc main_v121_1) : FVec Ideal S2x32x1024 .f32) (ix3 b ⟨z.val, h⟩ (at' i j))
        else if h' : z.val - 32 < 32 then (W (Proc.devRef .tc main_v121_0) : FVec Ideal S2x32x1024 .f32) (ix3 b ⟨z.val - 32, h'⟩ (at' i j))
        else (W (Proc.devRef .tc main_v121_2) : FVec Ideal S2x64x1024 .f32) (ix3 b ⟨z.val - 32 - 32, by omega⟩ (at' i j)) := by
  have e : (StableHlo.after [hostOps1].flatten W (Proc.devRef .tc main_v125) : FVec Ideal S2x128x32x32 .f32)
      = concatenate S2x128x32x32 1
        [⟨S2x32x32x32, shapeCast S2x32x32x32 (W (Proc.devRef .tc main_v121_1) : FVec Ideal S2x32x1024 .f32) shapeCasts_S2x32x1024_S2x32x32x32⟩,
          ⟨S2x32x32x32, shapeCast S2x32x32x32 (W (Proc.devRef .tc main_v121_0) : FVec Ideal S2x32x1024 .f32) shapeCasts_S2x32x1024_S2x32x32x32⟩,
          ⟨S2x64x32x32, shapeCast S2x64x32x32 (W (Proc.devRef .tc main_v121_2) : FVec Ideal S2x64x1024 .f32) shapeCasts_S2x64x1024_S2x64x32x32⟩]
        concatenates_S2x32x32x32_S2x32x32x32_S2x64x32x32_S2x128x32x32_d1 := by
    simp only [hostOps1, List.flatten_cons, List.flatten_nil, List.append_nil]
    after_results
    rfl
  rw [e]
  pointwise
  rfl

/-- They leave the segmentation as the region stored it. -/
theorem tail_seg (W : Valuation τ sig (Elt Ideal)) (b z : Fin 2) (i j : Fin 32) :
    (StableHlo.after [hostOps1].flatten W (Proc.devRef .tc main_v126) : FVec Ideal S2x2x32x32 .f32) (ix4 b z i j)
      = (W (Proc.devRef .tc main_v121_3) : FVec Ideal S2x2x1024 .f32) (ix3 b z (at' i j)) := by
  simp only [hostOps1, List.flatten_cons, List.flatten_nil, List.append_nil]
  after_results
  pointwise
  rfl

theorem stack_at_ix {n : ℕ} (f : Fin cfg0.N → Vec Ideal ⟨3, ![1, n, 1024]⟩ .f32) (b : Fin 2) (p : Fin n) (q : Fin 1024) :
    stack f (ix3 b p q) = f (pt b) (ix3 0 p q) := rfl

/-- The first result, index by index. -/
theorem last_corr (c : Dev nD) (b : Fin 2) (z : Fin 128) (i j : Fin 32) :
    (last m c main_v125 : FVec Ideal S2x128x32x32 .f32) (ix4 b z i j)
      = if h : z.val < 32 then stored10 m c (pt b) (ix3 0 ⟨z.val, h⟩ (at' i j))
        else if h' : z.val - 32 < 32 then stored9 m c (pt b) (ix3 0 ⟨z.val - 32, h'⟩ (at' i j))
        else stored11 m c (pt b) (ix3 0 ⟨z.val - 32 - 32, by omega⟩ (at' i j)) := by
  refine (tail_corr (mid m c) b z i j).trans ?_
  rw [mid9, mid10, mid11]
  simp only [stack_at_ix]

/-- The second result, index by index. -/
theorem last_seg (c : Dev nD) (b z : Fin 2) (i j : Fin 32) :
    (last m c main_v126 : FVec Ideal S2x2x32x32 .f32) (ix4 b z i j) = stored12 m c (pt b) (ix3 0 z (at' i j)) := by
  refine (tail_seg (mid m c) b z i j).trans ?_
  rw [mid12]
  exact stack_at_ix _ b z (at' i j)

/-- Every run ends with the two results at these contents. -/
theorem results : θ_run defs (onTc (τ := τ) (main (F := Ideal))) ⟨m, fun _ => 0, ρ⟩ (fun r => ∀ c : Dev nD,
      r.2.mem ((c.tc : Thread nD τ).loc main_v125) = last m c main_v125
      ∧ r.2.mem ((c.tc : Thread nD τ).loc main_v126) = last m c main_v126) :=
  (θ_run defs _ _).mono (fun _ h c =>
    ⟨(h c).2 main_v125 (Pipeline.mem_restRefs_of main_v125 (by decide) (by decide)),
      (h c).2 main_v126 (Pipeline.mem_restRefs_of main_v126 (by decide) (by decide))⟩) (run_main m ρ)

end Cert.Proof.KernelRun
-- ==== Proof.Chosen.lean ====
/-
  The reference's selections: the sorted values and positions of its top-k operations, and the rows its gather takes.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.Chosen

open Idealize.ShloMosaic Idealize.ShloMosaic.TcCoe
open Idealize.ShloMosaic (ix1 ix2 ix3 ix4)
open Cert.ReferenceIdeal

/-- The total comparison of extended reals is the order's own. -/
theorem greater (x y : EReal) : (FloatOps.cmpfTotal (F := Ideal) (φ := .f32) .gt x y == 1#1) = decide (y < x) := by
  show (BitVec.ofBool (decide (y < x)) == 1#1) = decide (y < x)
  by_cases h : y < x <;> simp [h]

theorem along3 (h : 2 < S2x1024x1024.rank) (b : Fin 2) (q p : Fin 1024) (k : Fin (S2x1024x1024.size ⟨2, h⟩)) :
    Shape.Idx.along (s := S2x1024x1024) (ix3 b q p) ⟨2, h⟩ k = ix3 b q k := by
  funext a
  match a with
  | ⟨0, _⟩ => exact Function.update_of_ne (fun h => absurd (Fin.mk.inj h) (by norm_num)) _ _
  | ⟨1, _⟩ => exact Function.update_of_ne (fun h => absurd (Fin.mk.inj h) (by norm_num)) _ _
  | ⟨2, _⟩ => exact Function.update_self ..

theorem along2 (h : 1 < S2x1024.rank) (b : Fin 2) (p : Fin 1024) (k : Fin (S2x1024.size ⟨1, h⟩)) :
    Shape.Idx.along (s := S2x1024) (ix2 b p) ⟨1, h⟩ k = ix2 b k := by
  funext a
  match a with
  | ⟨0, _⟩ => exact Function.update_of_ne (fun h => absurd (Fin.mk.inj h) (by norm_num)) _ _
  | ⟨1, _⟩ => exact Function.update_self ..

/-- A position's word read as a signed number. -/
theorem word_toInt (p : Fin 1024) : (BitVec.ofNat 32 p.val).toInt = p.val := by
  have := p.isLt
  rw [BitVec.toInt_eq_toNat_cond, BitVec.toNat_ofNat, Nat.mod_eq_of_lt (by omega), if_pos (by omega)]

/-- A sort of two operands, its axis within the rank. -/
theorem sort2_eq (s : Shape) (d : Nat) (hd : d < s.rank) {α β : Type} (cmp : α × β → α × β → BitVec 1) (x : s.Idx → α)
    (y : s.Idx → β) : Host.sort2 s d cmp x y
      = (fun j => x (j.along ⟨d, hd⟩ (sortedFrom (fun k k' => cmp (x (j.along ⟨d, hd⟩ k), y (j.along ⟨d, hd⟩ k))
            (x (j.along ⟨d, hd⟩ k'), y (j.along ⟨d, hd⟩ k')) == 1#1) (j ⟨d, hd⟩))),
          fun j => y (j.along ⟨d, hd⟩ (sortedFrom (fun k k' => cmp (x (j.along ⟨d, hd⟩ k), y (j.along ⟨d, hd⟩ k))
            (x (j.along ⟨d, hd⟩ k'), y (j.along ⟨d, hd⟩ k')) == 1#1) (j ⟨d, hd⟩)))) := dif_pos hd

/-- The `i`-th value the top-k of a row holds is the row's `i`-th greatest. -/
theorem values_at (x : FVec Ideal S2x1024x1024 .f32) (h : S2x1024x1024.Slices (fun _ => 0) S2x1024x32)
    (b : Fin 2) (q : Fin 1024) (i : Fin 32) :
    (Host.topK S2x1024x32 2 (FloatOps.cmpfTotal (F := Ideal) (φ := .f32) .gt) x h).1 (ix3 b q i)
      = Args.nth (fun p => x (ix3 b q p)) i := by
  have e : (fun a : Fin S2x1024x1024.rank => (⟨0 + ((ix3 b q i : S2x1024x32.Idx) (a.cast h.1.symm)).val,
      Nat.lt_of_lt_of_le (Nat.add_lt_add_left ((ix3 b q i : S2x1024x32.Idx) _).isLt _) (h.2 a)⟩ : Fin (S2x1024x1024.size a)))
      = (ix3 b q (i.castLE (by decide)) : S2x1024x1024.Idx) := by
    funext a
    match a with
    | ⟨0, _⟩ => exact Fin.ext (Nat.zero_add _)
    | ⟨1, _⟩ => exact Fin.ext (Nat.zero_add _)
    | ⟨2, _⟩ => exact Fin.ext (Nat.zero_add _)
  refine (congrArg (Host.sort2 S2x1024x1024 2 (fun l r => FloatOps.cmpfTotal (F := Ideal) (φ := .f32) .gt l.1 r.1) x
    (iotaInDim S2x1024x1024 32 ⟨2, by decide⟩)).1 e).trans ?_
  refine (congrFun (congrArg Prod.fst (sort2_eq S2x1024x1024 2 (by decide) _ x _)) _).trans ?_
  dsimp only
  simp only [along3, greater]
  rfl

/-- The `i`-th position the top-k of a row of scores holds is the position of its `i`-th greatest. -/
theorem positions_at (x : FVec Ideal S2x1024 .f32) (h : S2x1024.Slices (fun _ => 0) S2x32) (b : Fin 2) (i : Fin 32) :
    (Host.topK S2x32 1 (FloatOps.cmpfTotal (F := Ideal) (φ := .f32) .gt) x h).2 (ix2 b i)
      = BitVec.ofNat 32 (sortedFrom (TopK.above fun p => x (ix2 b p)) (i.castLE (by decide))).val := by
  have e : (fun a : Fin S2x1024.rank => (⟨0 + ((ix2 b i : S2x32.Idx) (a.cast h.1.symm)).val,
      Nat.lt_of_lt_of_le (Nat.add_lt_add_left ((ix2 b i : S2x32.Idx) _).isLt _) (h.2 a)⟩ : Fin (S2x1024.size a)))
      = (ix2 b (i.castLE (by decide)) : S2x1024.Idx) := by
    funext a
    match a with
    | ⟨0, _⟩ => exact Fin.ext (Nat.zero_add _)
    | ⟨1, _⟩ => exact Fin.ext (Nat.zero_add _)
  refine (congrArg (Host.sort2 S2x1024 1 (fun l r => FloatOps.cmpfTotal (F := Ideal) (φ := .f32) .gt l.1 r.1) x
    (iotaInDim S2x1024 32 ⟨1, by decide⟩)).2 e).trans ?_
  refine (congrFun (congrArg Prod.snd (sort2_eq S2x1024 1 (by decide) _ x _)) _).trans ?_
  dsimp only
  simp only [along2, greater]
  rfl

/-- The gather's dimension numbers. -/
abbrev taken := gather_S2x1024x1024_S2x32x1_S2x32x1024_2_1_0_0_1_2_111024

/-- The gather takes, batch by batch, the row its start index names. -/
theorem gather_at (x : FVec Ideal S2x1024x1024 .f32) (idx : IVec S2x32x1 32) (b : Fin 2) (z : Fin 32) (c p : Fin 1024)
    (hp : idx (ix3 b z 0) = BitVec.ofNat 32 p.val) :
    Host.gather gather_S2x1024x1024_S2x32x1_S2x32x1024_2_1_0_0_1_2_111024 x idx (ix3 b z c) = x (ix3 b p c) := by
  unfold Host.gather
  congr 1
  funext a
  refine Fin.ext ?_
  show GatherDims.start taken _ idx a + GatherDims.batchCoord taken _ a + GatherDims.offCoord taken _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ taken.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ taken.startIndexMap from List.mem_singleton.mpr rfl)]
    have hsi : GatherDims.siIdx taken (ix3 b z c)
        ⟨List.idxOf (1 : Fin 3) taken.startIndexMap, List.idxOf_lt_length_iff.2 (List.mem_singleton.mpr rfl)⟩ = ix3 b z 0 := by
      funext d; refine Fin.ext ?_
      match d with
      | ⟨0, _⟩ => rfl
      | ⟨1, _⟩ => rfl
      | ⟨2, _⟩ => rfl
    refine (congrArg (fun w : BitVec 32 => min w.toInt.toNat 1023) ((congrArg idx hsi).trans hp)).trans ?_
    show min (BitVec.ofNat 32 p.val).toInt.toNat 1023 = p.val
    rw [word_toInt]
    have := p.isLt
    simp only [Int.toNat_natCast]
    omega
  · rw [GatherDims.batchCoord_eq_zero _ _ _ (by decide)]
    unfold GatherDims.start
    rw [dif_neg (by decide)]
    simp only [Nat.zero_add]
    unfold GatherDims.offCoord
    rw [dif_pos (show (2 : Fin 3) ∈ taken.sKept from (GatherDims.mem_sKept _ _).mpr ⟨by decide, by decide⟩)]
    rfl

/-- A position's word is not negative, and within the row. -/
theorem word_range (p : Fin 1024) :
    IntOp.cmpi .slt (BitVec.ofNat 32 p.val) 0#32 = 0#1 ∧ IntOp.cmpi .sge (BitVec.ofNat 32 p.val) 0#32 = 1#1
      ∧ IntOp.cmpi .sle (BitVec.ofNat 32 p.val) 1023#32 = 1#1 := by
  have hi := word_toInt p
  have := p.isLt
  have h0 : (0#32 : BitVec 32).toInt = 0 := by decide
  have h1 : (1023#32 : BitVec 32).toInt = 1023 := by decide
  refine ⟨?_, ?_, ?_⟩
  · have : (BitVec.ofNat 32 p.val).slt 0#32 = false := by
      rw [BitVec.slt_eq_decide, hi, h0]; simp
    simp [IntOp.cmpi, this]
  · have : (0#32 : BitVec 32).sle (BitVec.ofNat 32 p.val) = true := by
      rw [BitVec.sle_eq_decide, hi, h0]; simp
    simp [IntOp.cmpi, this]
  · have : (BitVec.ofNat 32 p.val).sle 1023#32 = true := by
      rw [BitVec.sle_eq_decide, hi, h1]; simp; omega
    simp [IntOp.cmpi, this]

end Cert.Proof.Chosen
-- ==== Proof.Ref.lean ====
/-
  The reference's values, entry by entry, in terms of its arguments.
-/
module

public import proofs.«01_k».proof.Proof.Chosen
public import proofs.«01_k».proof.Proof.Entry
public import Idealize.ShloMosaic.Lib.ReduceAll

@[expose] public section

set_option maxRecDepth 16384

noncomputable section

namespace Cert.Proof.Ref

open Idealize.ShloMosaic Idealize.ShloMosaic.TcCoe Idealize.SL.Sem
open Idealize.ShloMosaic (ix1 ix2 ix3 ix4)
open Cert.ReferenceIdeal Cert.ReferenceIdeal.Value
open Cert.Proof.Mask Cert.Proof.Entry Cert.Proof.Chosen

variable (V : Valuation τ sig (Elt Ideal))

/-- The reference's arguments. -/
def given : Args where
  r b ch p := (V (Proc.devRef .tc main_arg0) : FVec Ideal S2x1024x32x32 .f32) (ix4 b ch (hi p) (lo p))
  u b ch p := (V (Proc.devRef .tc main_arg1) : FVec Ideal S2x1024x32x32 .f32) (ix4 b ch (hi p) (lo p))
  k b p := level (fun y x => (V (Proc.devRef .tc main_arg2) : FVec Ideal S2x1x512x512 .f32) (ix4 b 0 y x)) p
  wg n y := (V (Proc.devRef .tc main_arg3) : FVec Ideal S1024x32x1x1 .f32) (ix4 n y 0 0)
  bg n := (V (Proc.devRef .tc main_arg4) : FVec Ideal S1024 .f32) (ix1 n)
  wl z n := (V (Proc.devRef .tc main_arg5) : FVec Ideal S32x1024x1x1 .f32) (ix4 z n 0 0)
  bl z := (V (Proc.devRef .tc main_arg6) : FVec Ideal S32 .f32) (ix1 z)
  wc z x := (V (Proc.devRef .tc main_arg7) : FVec Ideal S2x64x1x1 .f32) (ix4 z x 0 0)
  bc z := (V (Proc.devRef .tc main_arg8) : FVec Ideal S2 .f32) (ix1 z)

/-- The correlation, by current position and reference position. -/
theorem v11_at (b : Fin 2) (q p : Fin 1024) :
    (res_main_v11 V : FVec Ideal S2x1024x1024 .f32) (ix3 b q p) = (given V).corr b p q := by
  have e : (res_main_v11 V : FVec Ideal S2x1024x1024 .f32) (ix3 b q p)
      = (∑ x, unit (fun c => (given V).u b c q) x * unit (fun c => (given V).r b c p) x : EReal) := by
    unfold res_main_v11
    pointwise
    rfl
  rw [e]
  unfold Args.corr
  show @Eq EReal _ _
  exact Finset.sum_congr rfl fun x _ => mul_comm _ _

/-- The correlation with the foreground. -/
theorem v116_at (b : Fin 2) (q p : Fin 1024) :
    (res_main_v116 V : FVec Ideal S2x1024x1024 .f32) (ix3 b q p) = (given V).fg b p q := by
  have e : (res_main_v116 V : FVec Ideal S2x1024x1024 .f32) (ix3 b q p)
      = @HMul.hMul EReal EReal EReal _ ((res_main_v11 V : FVec Ideal S2x1024x1024 .f32) (ix3 b q p))
        (FloatOps.uitofp (F := Ideal) FTy.f32 (BitVec.ofBool (decide (Ideal.ofBits FTy.f32 1056964608#32 < (res_main_v111 V : FVec Ideal S2x1x1024 .f32) (ix3 b 0 p))))) := by
    unfold res_main_v116
    pointwise
  rw [e, v11_at, reference_mask, bit_number]
  rfl

/-- The correlation with the background. -/
theorem v121_at (b : Fin 2) (q p : Fin 1024) :
    (res_main_v121 V : FVec Ideal S2x1024x1024 .f32) (ix3 b q p) = (given V).bgd b p q := by
  have e : (res_main_v121 V : FVec Ideal S2x1024x1024 .f32) (ix3 b q p)
      = @HMul.hMul EReal EReal EReal _ ((res_main_v11 V : FVec Ideal S2x1024x1024 .f32) (ix3 b q p))
        (FloatOps.uitofp (F := Ideal) FTy.f32 (BitVec.ofBool (decide (@LE.le EReal _
          ((res_main_v111 V : FVec Ideal S2x1x1024 .f32) (ix3 b 0 p)) (Ideal.ofBits FTy.f32 1056964608#32))))) := by
    unfold res_main_v121
    pointwise
  rw [e, v11_at, reference_mask, bit_number]
  unfold Args.bgd Args.outside
  refine congrArg (fun x : EReal => (given V).corr b p q * x) ?_
  show (if (given V).k b p ≤ Ideal.ofBits FTy.f32 1056964608#32 then (1 : EReal) else 0)
    = if Ideal.ofBits FTy.f32 1056964608#32 < (given V).k b p then 0 else 1
  by_cases h : Ideal.ofBits FTy.f32 1056964608#32 < (given V).k b p
  · rw [if_pos h, if_neg (not_le.mpr h)]
  · rw [if_neg h, if_pos (not_lt.mp h)]

/-- The scores. -/
theorem v128_at (b : Fin 2) (q : Fin 1024) :
    (res_main_v128 V : FVec Ideal S2x1024 .f32) (ix2 b q) = (given V).score b q := by
  have e : (res_main_v128 V : FVec Ideal S2x1024 .f32) (ix2 b q)
      = (∑ x, (res_main_v116 V : FVec Ideal S2x1024x1024 .f32) (ix3 b q x) : EReal) := by
    unfold res_main_v128
    pointwise
  rw [e]
  unfold Args.score
  show @Eq EReal _ _
  exact Finset.sum_congr rfl fun x _ => v116_at V b q x

/-- The words of the chosen positions. -/
theorem v130_at (b : Fin 2) (i : Fin 32) :
    (res_main_v130 V : IVec S2x32x1 32) (ix3 b i 0) = BitVec.ofNat 32 ((given V).pick b i).val := by
  have e : (res_main_v130 V : IVec S2x32x1 32) (ix3 b i 0)
      = (Host.topK S2x32 1 (FloatOps.cmpfTotal (F := Ideal) (φ := .f32) .gt) (res_main_v128 V : FVec Ideal S2x1024 .f32)
          Gen.sliceFits_S2x1024_S2x32).2 (ix2 b i) := by
    unfold res_main_v130
    pointwise
  rw [e, positions_at]
  unfold Args.pick
  rw [show (fun p => (res_main_v128 V : FVec Ideal S2x1024 .f32) (ix2 b p)) = (given V).score b from
    funext fun q => v128_at V b q]

/-- No word is negative, so each stays as it is. -/
theorem call2_at (b : Fin 2) (i : Fin 32) :
    (res_main_call2_v4 V : IVec S2x32x1 32) (ix3 b i 0) = BitVec.ofNat 32 ((given V).pick b i).val := by
  have e : (res_main_call2_v4 V : IVec S2x32x1 32) (ix3 b i 0)
      = Scalar.select (IntOp.cmpi .slt ((res_main_v130 V : IVec S2x32x1 32) (ix3 b i 0)) 0#32)
          (IntOp.addi ((res_main_v130 V : IVec S2x32x1 32) (ix3 b i 0)) 1024#32) ((res_main_v130 V : IVec S2x32x1 32) (ix3 b i 0)) := by
    unfold res_main_call2_v4
    pointwise
  rw [e, v130_at, (word_range _).1]
  rfl

/-- Every index of the start words is a batch and a choice. -/
theorem start_idx (x : S2x32x1.Idx) : ∃ (b : Fin 2) (i : Fin 32), x = ix3 b i 0 :=
  ⟨x 0, x 1, funext fun a => by
    match a with
    | ⟨0, _⟩ => rfl
    | ⟨1, _⟩ => rfl
    | ⟨2, _⟩ => exact Subsingleton.elim (α := Fin 1) _ _⟩

/-- A reference feature by row and column. -/
theorem given_r (b : Fin 2) (c : Fin 1024) (i j : Fin 32) :
    (V (Proc.devRef .tc main_arg0) : FVec Ideal S2x1024x32x32 .f32) (ix4 b c i j) = (given V).r b c (at' i j) := by
  unfold given
  dsimp only
  rw [hi_at, lo_at]

/-- A conjunction of ones is one. -/
theorem fold_ones {ι : Type} (s : Finset ι) (f : ι → BitVec 1) (h : ∀ x, f x = 1#1) :
    Finset.fold IntOp.andi 1#1 f s = 1#1 := by
  classical
  induction s using Finset.induction_on with
  | empty => rfl
  | insert x s hx ih => rw [Finset.fold_insert hx, ih, h]; rfl

/-- The structure. -/
theorem v133_at (b : Fin 2) (z i j : Fin 32) :
    (res_main_v133 V : FVec Ideal S2x32x32x32 .f32) (ix4 b z i j) = (given V).struct b z (at' i j) := by
  have hf : ∀ x : S2x32x1.Idx, IntOp.andi (IntOp.cmpi .sge ((res_main_call2_v4 V : IVec S2x32x1 32) x) 0#32)
      (IntOp.cmpi .sle ((res_main_call2_v4 V : IVec S2x32x1 32) x) 1023#32) = 1#1 := by
    intro x
    obtain ⟨b, i, rfl⟩ := start_idx x
    rw [call2_at, (word_range _).2.1, (word_range _).2.2]
    rfl
  unfold res_main_v133
  pointwise
  unfold Args.struct
  show @Eq EReal _ _
  refine Finset.sum_congr rfl fun x _ => ?_
  refine congrArg₂ (fun x y : EReal => x * y) ?_ ?_
  · refine (congrArg (fun w => Scalar.select w _ _) (fold_ones _ _ hf)).trans ?_
    refine (gather_at (transpose S2x1024x1024 [0, 2, 1] (res_main_v127 V) Gen.transposes_S2x1024x1024_S2x1024x1024_0_2_1) _
      b z x ((given V).pick b z) (call2_at V b z)).trans ?_
    unfold res_main_v127
    pointwise
    rfl
  · unfold res_main_v127
    pointwise
    exact given_r V b x i j

/-- Both halves. -/
theorem v163_at (b : Fin 2) (z : Fin 64) (i j : Fin 32) :
    (res_main_v163 V : FVec Ideal S2x64x32x32 .f32) (ix4 b z i j) = (given V).both b z (at' i j) := by
  unfold res_main_v163
  pointwise
  unfold Args.both
  by_cases h : z.val < 32
  · simp only [dif_pos h]
    unfold Args.group
    show @Eq EReal _ _
    refine Finset.sum_congr rfl fun x _ => ?_
    have h1 : (⟨(x.val * 32 + z.val) / 32, by omega⟩ : Fin 32) = x := Fin.ext (by show (x.val * 32 + z.val) / 32 = _; omega)
    have h2 : ∀ y : Fin 32, (⟨(x.val * 32 + z.val) / 32 * 32 + y.val, by omega⟩ : Fin 1024) = at' x y := fun y =>
      Fin.ext (by show (x.val * 32 + z.val) / 32 * 32 + y.val = x.val * 32 + y.val; omega)
    have h3 : (⟨(x.val * 32 + z.val) / 32 * 32 + (x.val * 32 + z.val) % 32, by omega⟩ : Fin 1024) = at' x ⟨z.val, h⟩ :=
      Fin.ext (by show (x.val * 32 + z.val) / 32 * 32 + (x.val * 32 + z.val) % 32 = x.val * 32 + z.val; omega)
    refine congrArg₂ (fun x y : EReal => x * y) ?_ (congrArg₂ (fun x y : EReal => max (x + y) 0) ?_ rfl)
    · exact (congrArg (fun x : Fin 32 => (res_main_v133 V : FVec Ideal S2x32x32x32 .f32) (ix4 b x i j)) h1).trans (v133_at V b x i j)
    · refine Finset.sum_congr rfl fun y _ => congrArg₂ (fun x y : EReal => x * y) ?_ ?_
      · exact (congrArg (fun c : Fin 1024 => (V (Proc.devRef .tc main_arg0) : FVec Ideal S2x1024x32x32 .f32) (ix4 b c i j)) (h2 y)).trans
          (given_r V b _ i j)
      · exact congrArg (fun c : Fin 1024 => (V (Proc.devRef .tc main_arg3) : FVec Ideal S1024x32x1x1 .f32) (ix4 c y 0 0)) h3
  · simp only [dif_neg h]
    unfold Args.global
    refine congrArg₂ (fun x y : EReal => x * y) (congrArg (fun x : EReal => Ideal.div x (Ideal.ofBits .f32 1107296256#32)) ?_)
      (congrArg₂ (fun x y : EReal => max (x + y) 0) ?_ rfl)
    · exact Finset.sum_congr rfl fun x _ => v133_at V b x i j
    · exact Finset.sum_congr rfl fun x _ => congrArg₂ (fun x y : EReal => x * y) (given_r V b x i j) rfl

end Cert.Proof.Ref
-- ==== Proof.Results.lean ====
/-
  The reference's two results, entry by entry, in terms of its arguments.
-/
module

public import proofs.«01_k».proof.Proof.Ref

@[expose] public section

set_option maxRecDepth 16384

noncomputable section

namespace Cert.Proof.Results

open Idealize.ShloMosaic Idealize.ShloMosaic.TcCoe Idealize.SL.Sem
open Idealize.ShloMosaic (ix1 ix2 ix3 ix4)
open Cert.ReferenceIdeal Cert.ReferenceIdeal.Value
open Cert.Proof.Mask Cert.Proof.Entry Cert.Proof.Chosen Cert.Proof.Ref

/-- The first result's layout: two arrays of selected entries and the two halves, one after the other. -/
def joined (x y : FVec Ideal S2x1024x32 .f32) (w : FVec Ideal S2x64x32x32 .f32) : FVec Ideal S2x128x32x32 .f32 :=
  fn_main_v164 (F := Ideal) (fn_main_v126
    (transpose S2x32x32x32 [0, 3, 1, 2] (shapeCast S2x32x32x32 x Gen.shapeCasts_S2x1024x32_S2x32x32x32)
      Gen.transposes_S2x32x32x32_S2x32x32x32_0_3_1_2)
    (transpose S2x32x32x32 [0, 3, 1, 2] (shapeCast S2x32x32x32 y Gen.shapeCasts_S2x1024x32_S2x32x32x32)
      Gen.transposes_S2x32x32x32_S2x32x32x32_0_3_1_2)) w

theorem joined_at (x y : FVec Ideal S2x1024x32 .f32) (w : FVec Ideal S2x64x32x32 .f32) (b : Fin 2) (z : Fin 128) (i j : Fin 32) :
    joined x y w (ix4 b z i j) = if h : z.val < 64 then
        if h' : z.val < 32 then x (ix3 b (at' i j) ⟨z.val, h'⟩) else y (ix3 b (at' i j) ⟨z.val - 32, by omega⟩)
      else w (ix4 b ⟨z.val - 64, by omega⟩ i j) := by
  unfold joined fn_main_v164 fn_main_v126
  pointwise
  rfl

/-- The second result's layout. -/
def classified (w : FVec Ideal S2x64x32x32 .f32) (k : FVec Ideal S2x64x1x1 .f32) (v : FVec Ideal S2 .f32) :
    FVec Ideal S2x2x32x32 .f32 :=
  addf (transpose S2x2x32x32 [0, 3, 1, 2] (Host.dotGeneral dot_S2x64x32x32_S2x64_S2x32x32x2_1_1_023_0_n_n none w
      (shapeCast _ k Gen.shapeCasts_S2x64x1x1_S2x64)) Gen.transposes_S2x32x32x2_S2x2x32x32_0_3_1_2)
    (broadcastInDim S2x2x32x32 ![0, 1, 2, 3] Gen.bcast_S1x2x1x1_S2x2x32x32_0_1_2_3
      (broadcastInDim S1x2x1x1 ![1] Gen.bcast_S2_S1x2x1x1_1 v))

theorem classified_at (w : FVec Ideal S2x64x32x32 .f32) (k : FVec Ideal S2x64x1x1 .f32) (v : FVec Ideal S2 .f32)
    (b z : Fin 2) (i j : Fin 32) :
    classified w k v (ix4 b z i j) = (∑ x, w (ix4 b x i j) * k (ix4 z x 0 0) + v (ix1 z) : EReal) := by
  unfold classified
  pointwise

variable (V : Valuation τ sig (Elt Ideal))

/-- The first result: background and foreground entries, then both halves. -/
theorem corr_at (b : Fin 2) (z : Fin 128) (i j : Fin 32) :
    joined (Host.topK S2x1024x32 2 (FloatOps.cmpfTotal (F := Ideal) (φ := .f32) .gt) (res_main_v121 V)
        Gen.sliceFits_S2x1024x1024_S2x1024x32).1
      (Host.topK S2x1024x32 2 (FloatOps.cmpfTotal (F := Ideal) (φ := .f32) .gt) (res_main_v116 V)
        Gen.sliceFits_S2x1024x1024_S2x1024x32).1 (res_main_v163 V) (ix4 b z i j)
      = if h : z.val < 32 then Args.nth (fun p => (given V).bgd b p (at' i j)) ⟨z.val, h⟩
        else if h' : z.val - 32 < 32 then Args.nth (fun p => (given V).fg b p (at' i j)) ⟨z.val - 32, h'⟩
        else (given V).both b ⟨z.val - 32 - 32, by omega⟩ (at' i j) := by
  rw [joined_at]
  by_cases h : z.val < 32
  · rw [dif_pos (by omega : z.val < 64), dif_pos h, dif_pos h]
    exact (values_at _ _ b (at' i j) ⟨z.val, h⟩).trans (congrArg (fun f => Args.nth f _) (funext fun p => v121_at V b (at' i j) p))
  · rw [dif_neg h]
    by_cases h' : z.val - 32 < 32
    · rw [dif_pos (by omega : z.val < 64), dif_neg h, dif_pos h']
      exact (values_at _ _ b (at' i j) ⟨z.val - 32, h'⟩).trans
        (congrArg (fun f => Args.nth f _) (funext fun p => v116_at V b (at' i j) p))
    · rw [dif_neg (by omega : ¬ z.val < 64), dif_neg h', v163_at]
      exact congrArg (fun z => (given V).both b z (at' i j)) (Fin.ext (by show z.val - 64 = z.val - 32 - 32; omega))

/-- The second result: the classifier's output. -/
theorem seg_at (b z : Fin 2) (i j : Fin 32) :
    classified (res_main_v163 V) (V (Proc.devRef .tc main_arg7)) (V (Proc.devRef .tc main_arg8)) (ix4 b z i j)
      = (given V).seg b z (at' i j) := by
  rw [classified_at]
  unfold Args.seg
  refine congrArg₂ (fun x y : EReal => x + y) (Finset.sum_congr rfl fun x _ => ?_) rfl
  rw [v163_at, mul_comm]
  rfl

end Cert.Proof.Results
-- ==== Proof.Equal.lean ====
/-
  The two programs' results are equal entry by entry when their arguments are.
-/
module

public import proofs.«01_k».proof.Proof.Body
public import proofs.«01_k».proof.Proof.KernelRun
public import proofs.«01_k».proof.Proof.Results

@[expose] public section

set_option maxRecDepth 16384

noncomputable section

namespace Cert.Proof.Equal

open Idealize.ShloMosaic Idealize.ShloMosaic.TcCoe Idealize.SL.Sem
open Idealize.ShloMosaic (ix1 ix2 ix3 ix4)
open Cert.Proof.Entry Cert.Proof.Ref Cert.Proof.Results Cert.Proof.KernelRun Cert.Proof.Body

variable (m : (ℓ : Loc Cert.KernelIdeal.nD Cert.KernelIdeal.τ Cert.KernelIdeal.sig) → Buf (Elt Ideal) ℓ)
variable (V : Valuation Cert.ReferenceIdeal.τ Cert.ReferenceIdeal.sig (Elt Ideal))

/-- The kernel's first result, entry by entry. -/
theorem kernel_corr (c : Dev Cert.KernelIdeal.nD) (b : Fin 2) (z : Fin 128) (i j : Fin 32) :
    (last m c Cert.KernelIdeal.main_v125 : FVec Ideal Cert.KernelIdeal.S2x128x32x32 .f32) (ix4 b z i j)
      = if h : z.val < 32 then Args.nth (fun p => (args m c).bgd b p (at' i j)) ⟨z.val, h⟩
        else if h' : z.val - 32 < 32 then Args.nth (fun p => (args m c).fg b p (at' i j)) ⟨z.val - 32, h'⟩
        else (args m c).both b ⟨z.val - 32 - 32, by omega⟩ (at' i j) := by
  refine (last_corr m c b z i j).trans ?_
  by_cases h : z.val < 32
  · rw [dif_pos h, dif_pos h]
    exact stored10_at m c b _ _
  · rw [dif_neg h, dif_neg h]
    by_cases h' : z.val - 32 < 32
    · rw [dif_pos h', dif_pos h']
      exact stored9_at m c b _ _
    · rw [dif_neg h', dif_neg h']
      exact stored11_at m c b _ _

/-- Every index of a result is a batch, a channel, a row and a column. -/
theorem idx4_eq {n : ℕ} (x : Shape.Idx ⟨4, ![2, n, 32, 32]⟩) :
    x = ix4 (x 0 : Fin 2) (x 1 : Fin n) (x 2 : Fin 32) (x 3 : Fin 32) := funext fun a => by
  match a with
  | ⟨0, _⟩ => rfl
  | ⟨1, _⟩ => rfl
  | ⟨2, _⟩ => rfl
  | ⟨3, _⟩ => rfl

/-- The first results are equal. -/
theorem corr_eq (c : Dev Cert.KernelIdeal.nD) (h : given V = args m c) :
    joined (Host.topK Cert.ReferenceIdeal.S2x1024x32 2 (FloatOps.cmpfTotal (F := Ideal) (φ := .f32) .gt)
        (Cert.ReferenceIdeal.Value.res_main_v121 V) Cert.ReferenceIdeal.Gen.sliceFits_S2x1024x1024_S2x1024x32).1
      (Host.topK Cert.ReferenceIdeal.S2x1024x32 2 (FloatOps.cmpfTotal (F := Ideal) (φ := .f32) .gt)
        (Cert.ReferenceIdeal.Value.res_main_v116 V) Cert.ReferenceIdeal.Gen.sliceFits_S2x1024x1024_S2x1024x32).1
      (Cert.ReferenceIdeal.Value.res_main_v163 V)
      = (last m c Cert.KernelIdeal.main_v125 : FVec Ideal Cert.KernelIdeal.S2x128x32x32 .f32) := by
  funext x
  rw [idx4_eq (n := 128) x]
  refine (corr_at V _ _ _ _).trans ?_
  rw [h]
  exact (kernel_corr m c _ _ _ _).symm

/-- The second results are equal. -/
theorem seg_eq (c : Dev Cert.KernelIdeal.nD) (h : given V = args m c) :
    classified (Cert.ReferenceIdeal.Value.res_main_v163 V) (V (Proc.devRef .tc Cert.ReferenceIdeal.main_arg7))
      (V (Proc.devRef .tc Cert.ReferenceIdeal.main_arg8))
      = (last m c Cert.KernelIdeal.main_v126 : FVec Ideal Cert.KernelIdeal.S2x2x32x32 .f32) := by
  funext x
  rw [idx4_eq (n := 2) x]
  refine (seg_at V _ _ _ _).trans ?_
  rw [h]
  exact ((last_seg m c _ _ _ _).trans (stored12_at m c _ _ _)).symm

end Cert.Proof.Equal
-- ==== Proof.lean ====
/-
  The certificate: kernel and reference run to the end without fault, leave their arguments and every semaphore as they
  were, the ideal kernel is the kernel read over the extended reals, and there it computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.StableHlo
open Idealize.ShloMosaic (ix1 ix2 ix3 ix4)
open Cert.Proof.Mask Cert.Proof.Entry

/-- The reference's frame: it has no semaphores, and its run leaves the arguments as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

/-- Kernel and reference compute the same results over the extended reals. -/
theorem same_results : Cert.algebraic_KernelIdeal_ReferenceIdeal (hKernelIdeal := Cert.KernelIdeal.Gen.facts)
    (hReferenceIdeal := Cert.ReferenceIdeal.Gen.facts) := by
  intro m g m' g' _ hargs
  have hgiven : ∀ c : Dev Cert.KernelIdeal.nD, Ref.given (launchContents m' c) = Entry.args m c := by
    intro c
    obtain ⟨h0, h1, h2, h3, h4, h5, h6, h7, h8⟩ := hargs c
    unfold Ref.given Entry.args
    congr 1
    · exact funext fun b => funext fun ch => funext fun p => congrFun h0 (ix4 b ch (hi p) (lo p))
    · exact funext fun b => funext fun ch => funext fun p => congrFun h1 (ix4 b ch (hi p) (lo p))
    · exact funext fun b => funext fun p => congrArg (fun f => Mask.level f p) (funext fun y => funext fun x => congrFun h2 (ix4 b 0 y x))
    · exact funext fun n => funext fun y => congrFun h3 (ix4 n y 0 0)
    · exact funext fun n => congrFun h4 (ix1 n)
    · exact funext fun z => funext fun n => congrFun h5 (ix4 z n 0 0)
    · exact funext fun z => congrFun h6 (ix1 z)
    · exact funext fun z => funext fun x => congrFun h7 (ix4 z x 0 0)
    · exact funext fun z => congrFun h8 (ix1 z)
  refine ⟨fun c => KernelRun.last m c Cert.KernelIdeal.main_v125, fun c => KernelRun.last m c Cert.KernelIdeal.main_v126, ?_, ?_⟩
  · exact (θ_run Cert.KernelIdeal.defs _ _).mono (fun r h c => ⟨(h.1 c).1, (h.1 c).2, h.2 c⟩)
      (θ_run_and (KernelRun.results m g) (Cert.KernelIdeal.Gen.unchanged m g))
  · exact (θ_run Cert.ReferenceIdeal.defs _ _).mono (fun r h c =>
      ⟨(h c).1.trans (Equal.corr_eq m (launchContents m' c) c (hgiven c)),
        (h c).2.1.trans (Equal.seg_eq m (launchContents m' c) c (hgiven c)), (h c).2.2⟩)
      (Cert.ReferenceIdeal.Value.run m' g')

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_results⟩

end Cert.Proof

end
